-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x16x64 : Shape := ⟨3, ![8, 16, 64]⟩
abbrev S16384x64 : Shape := ⟨2, ![16384, 64]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S8x16x64 : S_.BroadcastsInDim S8x16x64 (![] : Fin 0 → Fin S8x16x64.rank)
  bcast_S_S16384x64 : S_.BroadcastsInDim S16384x64 (![] : Fin 0 → Fin S16384x64.rank)
  bcast_S_S64x64 : S_.BroadcastsInDim S64x64 (![] : Fin 0 → Fin S64x64.rank)
  bcast_S_S64 : S_.BroadcastsInDim S64 (![] : Fin 0 → Fin S64.rank)

variable [Facts]

def fn_part1 {F : FTy → Type} [FloatOps F] (main_arg6 : FVec F S64x64 .f32) (main_v2 : IVec S8x16x64 1) (main_v5 : IVec S16384x64 1) (main_v8 : IVec S64x64 1) (main_v11 : IVec S64 1) (main_v14 : IVec S64x64 1) (main_v17 : IVec S64 1) : IVec S8x16x64 1 × IVec S16384x64 1 × IVec S64x64 1 × IVec S64 1 × IVec S64x64 1 × IVec S64 1 × IVec S64x64 1 :=
  let main_v18 : FVec F S64x64 .f32 := Host.absf main_arg6
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  (main_v2, main_v5, main_v8, main_v11, main_v14, main_v17, main_v20)

def fn {F : FTy → Type} [FloatOps F] (main_arg0 : FVec F S8x16x64 .f32) (main_arg1 : FVec F S16384x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x128 .f32) (main_arg9 : FVec F S64 .f32) : IVec S8x16x64 1 × IVec S16384x64 1 × IVec S64x64 1 × IVec S64 1 × IVec S64x64 1 × IVec S64 1 × IVec S64x64 1 :=
  let main_v0 : FVec F S8x16x64 .f32 := Host.absf main_arg0
  let main_cst : FVec F S_ .f32 := constant S_ .f32 0x7F800000#32
  let main_v1 : FVec F S8x16x64 .f32 := broadcastInDim S8x16x64 ![] bcast_S_S8x16x64 main_cst
  let main_v2 : IVec S8x16x64 1 := cmpf .olt main_v0 main_v1
  let main_v3 : FVec F S16384x64 .f32 := Host.absf main_arg1
  let main_cst_0 : FVec F S_ .f32 := constant S_ .f32 0x7F800000#32
  let main_v4 : FVec F S16384x64 .f32 := broadcastInDim S16384x64 ![] bcast_S_S16384x64 main_cst_0
  let main_v5 : IVec S16384x64 1 := cmpf .olt main_v3 main_v4
  let main_v6 : FVec F S64x64 .f32 := Host.absf main_arg2
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64x64 .f32 := Host.absf main_arg4
  let main_cst_3 : FVec F S_ .f32 := constant S_ .f32 0x7F800000#32
  let main_v13 : FVec F S64x64 .f32 := broadcastInDim S64x64 ![] bcast_S_S64x64 main_cst_3
  let main_v14 : IVec S64x64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Kernel.lean ====
abbrev S8x16x64 : Shape := ⟨3, ![8, 16, 64]⟩
abbrev S16384x64 : Shape := ⟨2, ![16384, 64]⟩
abbrev S64x64 : Shape := ⟨2, ![64, 64]⟩
abbrev S64 : Shape := ⟨1, ![64]⟩
abbrev S64x128 : Shape := ⟨2, ![64, 128]⟩
abbrev S16x8x64 : Shape := ⟨3, ![16, 8, 64]⟩
abbrev S64x16384 : Shape := ⟨2, ![64, 16384]⟩
abbrev S1x64 : Shape := ⟨2, ![1, 64]⟩
abbrev S8x64x16384 : Shape := ⟨3, ![8, 64, 16384]⟩
abbrev S8x16384 : Shape := ⟨2, ![8, 16384]⟩
abbrev S64x2048 : Shape := ⟨2, ![64, 2048]⟩
abbrev S1x64x2048 : Shape := ⟨3, ![1, 64, 2048]⟩
abbrev S8x64x2048 : Shape := ⟨3, ![8, 64, 2048]⟩
abbrev S8x2048 : Shape := ⟨2, ![8, 2048]⟩
abbrev S1x8x64 : Shape := ⟨3, ![1, 8, 64]⟩
abbrev S8x64 : Shape := ⟨2, ![8, 64]⟩
abbrev S8 : Shape := ⟨1, ![8]⟩
abbrev S8x1 : Shape := ⟨2, ![8, 1]⟩
abbrev S1x64x16384 : Shape := ⟨3, ![1, 64, 16384]⟩
abbrev S1x16384 : Shape := ⟨2, ![1, 16384]⟩
abbrev S1x1 : Shape := ⟨2, ![1, 1]⟩
abbrev S1 : Shape := ⟨1, ![1]⟩
abbrev S8x1x2048 : Shape := ⟨3, ![8, 1, 2048]⟩
abbrev S8x64x1 : Shape := ⟨3, ![8, 64, 1]⟩

abbrev nBuf : Space → Nat
  | .hbm => 24
  | .vmem => 15
  | .smem => 0
  | _ => 0

abbrev bufTy : (tb : Table) → Fin (tcTables nBuf tb) → BufTy
  | .hbm, ⟨0, _⟩ => ⟨S8x16x64, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S16x8x64, .f32⟩
  | .hbm, ⟨11, _⟩ => ⟨S64x16384, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S16x8x64, .f32⟩
  | .hbm, ⟨23, _⟩ => ⟨S8x16x64, .f32⟩
  | .local _ .vmem, ⟨0, _⟩ => ⟨S16x8x64, .f32⟩
  | .local _ .vmem, ⟨1, _⟩ => ⟨S64x16384, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S16x8x64, .f32⟩
  | .local _ .vmem, ⟨12, _⟩ => ⟨S8x64x16384, .f32⟩
  | .local _ .vmem, ⟨13, _⟩ => ⟨S8x16384, .f32⟩
  | .local _ .vmem, ⟨14, _⟩ => ⟨S8x16384, .f32⟩
  | _, _ => ⟨S8x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0 : Index := 0#32
  let c0_i32 : BitVec 32 := 0#32
  let c1_i32 : BitVec 32 := 1#32
  let arg15 : BitVec 32 := Scf.iv c0_i32 c1_i32 k0_t1
  let c2048_i32 : BitVec 32 := 2048#32
  let v2 : BitVec 32 := Scalar.muli arg15 c2048_i32
  let v3 : Index := Scalar.indexCast v2
  ![0, v3.toNat]
def k0_off2 (k0_t1 : Fin k0_t1_loop.trips) : Fin 3 → Nat :=
  let c0_4 : Index := 0#32
  let c0_5 : Index := 0#32
  let c0_i32 : BitVec 32 := 0#32
  let c1_i32 : BitVec 32 := 1#32
  let arg15 : BitVec 32 := Scf.iv c0_i32 c1_i32 k0_t1
  let c2048_i32 : BitVec 32 := 2048#32
  let v2 : BitVec 32 := Scalar.muli arg15 c2048_i32
  let v9 : Index := Scalar.indexCast v2
  ![0, 0, v9.toNat]
def k0_off3 (k0_t1 : Fin k0_t1_loop.trips) : Fin 2 → Nat :=
  let c0_6 : Index := 0#32
  let c0_i32 : BitVec 32 := 0#32
  let c1_i32 : BitVec 32 := 1#32
  let arg15 : BitVec 32 := Scf.iv c0_i32 c1_i32 k0_t1
  let c2048_i32 : BitVec 32 := 2048#32
  let v2 : BitVec 32 := Scalar.muli arg15 c2048_i32
  let v14 : Index := Scalar.indexCast v2
  ![0, v14.toNat]
@[reducible] def k0_t2_loop : Scf.Loop 32 :=
  let c0_i32_1 : BitVec 32 := 0#32
  let c16_i32 : BitVec 32 := 16#32
  let v1 : BitVec 32 := Scalar.addi c0_i32_1 c16_i32
  let c1_i32_2 : BitVec 32 := 1#32
  ⟨c0_i32_1, v1, c1_i32_2⟩
def k0_off4 (k0_t2 : Fin k0_t2_loop.trips) : Fin 3 → Nat :=
  let c0_i32_1 : BitVec 32 := 0#32
  let c1_i32_2 : BitVec 32 := 1#32
  let arg15 : BitVec 32 := Scf.iv c0_i32_1 c1_i32_2 k0_t2
  let v2 : Index := Scalar.indexCast arg15
  let c0 : Index := 0#32
  let c0_4 : Index := 0#32
  ![v2.toNat, 0, 0]
@[reducible] def k0_t3_loop : Scf.Loop 32 :=
  let c0_i32_74 : BitVec 32 := 0#32
  let c8_i32_75 : BitVec 32 := 8#32
  let v135 : BitVec 32 := Scalar.addi c0_i32_74 c8_i32_75
  let c1_i32_76 : BitVec 32 := 1#32
  ⟨c0_i32_74, v135, c1_i32_76⟩
def k0_off5 (k0_t3 : Fin k0_t3_loop.trips) : Fin 2 → Nat :=
  let c0_100 : Index := 0#32
  let c0_i32_74 : BitVec 32 := 0#32
  let c1_i32_76 : BitVec 32 := 1#32
  let arg16 : BitVec 32 := Scf.iv c0_i32_74 c1_i32_76 k0_t3
  let c2048_i32 : BitVec 32 := 2048#32
  let v164 : BitVec 32 := Scalar.muli arg16 c2048_i32
  let v165 : Index := Scalar.indexCast v164
  ![0, v165.toNat]
def k0_off6 (k0_t3 : Fin k0_t3_loop.trips) : Fin 3 → Nat :=
  let c0_102 : Index := 0#32
  let c0_103 : Index := 0#32
  let c0_i32_74 : BitVec 32 := 0#32
  let c1_i32_76 : BitVec 32 := 1#32
  let arg16 : BitVec 32 := Scf.iv c0_i32_74 c1_i32_76 k0_t3
  let c2048_i32 : BitVec 32 := 2048#32
  let v164 : BitVec 32 := Scalar.muli arg16 c2048_i32
  let v174 : Index := Scalar.indexCast v164
  ![0, 0, v174.toNat]
@[reducible] def k0_t4_loop : Scf.Loop 32 :=
  let c0_i32_93 : BitVec 32 := 0#32
  let c8_i32_94 : BitVec 32 := 8#32
  let v162 : BitVec 32 := Scalar.addi c0_i32_93 c8_i32_94
  let c1_i32_95 : BitVec 32 := 1#32
  ⟨c0_i32_93, v162, c1_i32_95⟩
def k0_off7 : Fin 2 → Nat :=
  let c0_103 : Index := 0#32
  let c0_i32_101 : BitVec 32 := 0#32
  let c16384_i32_102 : BitVec 32 := 16384#32
  let v166 : BitVec 32 := Scalar.muli c0_i32_101 c16384_i32_102
  let v167 : Index := Scalar.indexCast v166
  ![0, v167.toNat]
@[reducible] def k0_t5_loop : Scf.Loop 32 :=
  let c0_i32_96 : BitVec 32 := 0#32
  let c8_i32_97 : BitVec 32 := 8#32
  let v163 : BitVec 32 := Scalar.addi c0_i32_96 c8_i32_97
  let c1_i32_98 : BitVec 32 := 1#32
  ⟨c0_i32_96, v163, c1_i32_98⟩
def k0_off8 (k0_t5 : Fin k0_t5_loop.trips) : Fin 3 → Nat :=
  let c0_100 : Index := 0#32
  let c0_101 : Index := 0#32
  let c0_i32_96 : BitVec 32 := 0#32
  let c1_i32_98 : BitVec 32 := 1#32
  let arg16 : BitVec 32 := Scf.iv c0_i32_96 c1_i32_98 k0_t5
  let c2048_i32 : BitVec 32 := 2048#32
  let v164 : BitVec 32 := Scalar.muli arg16 c2048_i32
  let v165 : Index := Scalar.indexCast v164
  ![0, 0, v165.toNat]
def k0_off9 (k0_t5 : Fin k0_t5_loop.trips) : Fin 2 → Nat :=
  let c0_102 : Index := 0#32
  let c0_i32_96 : BitVec 32 := 0#32
  let c1_i32_98 : BitVec 32 := 1#32
  let arg16 : BitVec 32 := Scf.iv c0_i32_96 c1_i32_98 k0_t5
  let c2048_i32 : BitVec 32 := 2048#32
  let v164 : BitVec 32 := Scalar.muli arg16 c2048_i32
  let v168 : Index := Scalar.indexCast v164
  ![0, v168.toNat]
abbrev stage0_0 : Fin 1 → Memref sig .tc .vmem S16x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S8x16x64 : Shape := ⟨3, ![8, 16, 64]⟩
abbrev S16384x64 : Shape := ⟨2, ![16384, 64]⟩
abbrev S64x64 : Shape := ⟨2, ![64, 64]⟩
abbrev S64 : Shape := ⟨1, ![64]⟩
abbrev S64x128 : Shape := ⟨2, ![64, 128]⟩
abbrev S1x16384x64 : Shape := ⟨3, ![1, 16384, 64]⟩
abbrev S8x16384x64 : Shape := ⟨3, ![8, 16384, 64]⟩
abbrev S8 : Shape := ⟨1, ![8]⟩
abbrev S8x1 : Shape := ⟨2, ![8, 1]⟩
abbrev S16x8x64 : Shape := ⟨3, ![16, 8, 64]⟩
abbrev S_ : Shape := ⟨0, ![]⟩
abbrev S1x8x64 : Shape := ⟨3, ![1, 8, 64]⟩
abbrev S8x64 : Shape := ⟨2, ![8, 64]⟩
abbrev S1x64 : Shape := ⟨2, ![1, 64]⟩
abbrev S1x1x64 : Shape := ⟨3, ![1, 1, 64]⟩
abbrev S8x16384 : Shape := ⟨2, ![8, 16384]⟩
abbrev S8x128 : Shape := ⟨2, ![8, 128]⟩
abbrev S128x64 : Shape := ⟨2, ![128, 64]⟩
abbrev S8x8 : Shape := ⟨2, ![8, 8]⟩
abbrev S8x8x1 : Shape := ⟨3, ![8, 8, 1]⟩
abbrev S8x8x2 : Shape := ⟨3, ![8, 8, 2]⟩
abbrev S8x8x64 : Shape := ⟨3, ![8, 8, 64]⟩
abbrev S8x1x64 : Shape := ⟨3, ![8, 1, 64]⟩

abbrev nBuf : Space → Nat
  | .hbm => 143
  | .vmem => 0
  | .smem => 0
  | _ => 0

abbrev hbmTy0_0 (i : Nat) : BufTy := match i % 128 with
  | 0 => ⟨S8x16x64, .f32⟩
  | 1 => ⟨S16384x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x128, .f32⟩
  | 9 => ⟨S64, .f32⟩
  | 10 => ⟨S1x16384x64, .f32⟩
  | 11 => ⟨S8x16384x64, .f32⟩
  | 12 => ⟨S8, .i32⟩
  | 13 => ⟨S8x1, .i32⟩
  | 14 => ⟨S16x8x64, .f32⟩
  | 15 => ⟨S_, .f32⟩
  | 16 => ⟨S16x8x64, .f32⟩
  | 17 => ⟨S_, .i32⟩
  | 18 => ⟨S16x8x64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x128, .f32⟩
  | 26 => ⟨S64, .f32⟩
  | 27 => ⟨S8x1, .i32⟩
  | 28 => ⟨S_, .i32⟩
  | 29 => ⟨S8x16384x64, .f32⟩
  | 30 => ⟨S16x8x64, .f32⟩
  | 31 => ⟨S_, .i32⟩
  | 32 => ⟨S_, .i1⟩
  | 33 => ⟨S_, .i32⟩
  | 34 => ⟨S_, .i32⟩
  | 35 => ⟨S1x8x64, .f32⟩
  | 36 => ⟨S8x64, .f32⟩
  | 37 => ⟨S64x64, .f32⟩
  | 38 => ⟨S8x64, .f32⟩
  | 39 => ⟨S1x64, .f32⟩
  | 40 => ⟨S8x64, .f32⟩
  | 41 => ⟨S8x64, .f32⟩
  | 42 => ⟨S64x64, .f32⟩
  | 43 => ⟨S8x16384x64, .f32⟩
  | 44 => ⟨S1x1x64, .f32⟩
  | 45 => ⟨S8x16384x64, .f32⟩
  | 46 => ⟨S8x16384x64, .f32⟩
  | 47 => ⟨S64x64, .f32⟩
  | 48 => ⟨S8x16384x64, .f32⟩
  | 49 => ⟨S1x1x64, .f32⟩
  | 50 => ⟨S8x16384x64, .f32⟩
  | 51 => ⟨S8x16384x64, .f32⟩
  | 52 => ⟨S8x16384, .f32⟩
  | 53 => ⟨S_, .f32⟩
  | 54 => ⟨S8x16384, .f32⟩
  | 55 => ⟨S8x16384, .f32⟩
  | 56 => ⟨S_, .f32⟩
  | 57 => ⟨S8, .f32⟩
  | 58 => ⟨S_, .f32⟩
  | 59 => ⟨S8, .f32⟩
  | 60 => ⟨S8, .f32⟩
  | 61 => ⟨S8x1, .f32⟩
  | 62 => ⟨S8x16384, .f32⟩
  | 63 => ⟨S8x16384, .f32⟩
  | 64 => ⟨S8x16384, .f32⟩
  | 65 => ⟨S_, .f32⟩
  | 66 => ⟨S8, .f32⟩
  | 67 => ⟨S8x1, .f32⟩
  | 68 => ⟨S8x16384, .f32⟩
  | 69 => ⟨S8x16384, .f32⟩
  | 70 => ⟨S8x64, .f32⟩
  | 71 => ⟨S8x128, .f32⟩
  | 72 => ⟨S128x64, .f32⟩
  | 73 => ⟨S8x64, .f32⟩
  | 74 => ⟨S1x64, .f32⟩
  | 75 => ⟨S8x64, .f32⟩
  | 76 => ⟨S8x64, .f32⟩
  | 77 => ⟨S8x64, .f32⟩
  | 78 => ⟨S8x64, .f32⟩
  | 79 => ⟨S_, .f32⟩
  | 80 => ⟨S8x64, .f32⟩
  | 81 => ⟨S8x64, .f32⟩
  | 82 => ⟨S_, .f32⟩
  | 83 => ⟨S8x64, .f32⟩
  | 84 => ⟨S8x64, .f32⟩
  | 85 => ⟨S8x8, .f32⟩
  | 86 => ⟨S8x8, .i32⟩
  | 87 => ⟨S_, .i32⟩
  | 88 => ⟨S8x1, .i32⟩
  | 89 => ⟨S8x1, .i1⟩
  | 90 => ⟨S_, .i32⟩
  | 91 => ⟨S8x1, .i32⟩
  | 92 => ⟨S8x1, .i32⟩
  | 93 => ⟨S8x1, .i32⟩
  | 94 => ⟨S_, .i32⟩
  | 95 => ⟨S8x8, .i32⟩
  | 96 => ⟨S8x8, .i1⟩
  | 97 => ⟨S_, .i32⟩
  | 98 => ⟨S8x8, .i32⟩
  | 99 => ⟨S8x8, .i32⟩
  | 100 => ⟨S8x8, .i32⟩
  | 101 => ⟨S8x8, .i32⟩
  | 102 => ⟨S8x8x1, .i32⟩
  | 103 => ⟨S8x8x1, .i32⟩
  | 104 => ⟨S8x8x2, .i32⟩
  | 105 => ⟨S8x8x64, .f32⟩
  | 106 => ⟨S_, .f32⟩
  | 107 => ⟨S8x64, .f32⟩
  | 108 => ⟨S8x64, .f32⟩
  | 109 => ⟨S8x1x64, .f32⟩
  | 110 => ⟨S8x8x64, .f32⟩
  | 111 => ⟨S8x8x64, .f32⟩
  | 112 => ⟨S8x1x64, .f32⟩
  | 113 => ⟨S8x1x64, .f32⟩
  | 114 => ⟨S8x1x64, .f32⟩
  | 115 => ⟨S8x8x64, .f32⟩
  | 116 => ⟨S8x8x64, .f32⟩
  | 117 => ⟨S_, .i32⟩
  | 118 => ⟨S8x1, .i32⟩
  | 119 => ⟨S8x1, .i1⟩
  | 120 => ⟨S_, .i32⟩
  | 121 => ⟨S8x1, .i32⟩
  | 122 => ⟨S8x1, .i32⟩
  | 123 => ⟨S8x1, .i32⟩
  | 124 => ⟨S_, .i32⟩
  | 125 => ⟨S8x8, .i32⟩
  | 126 => ⟨S8x8, .i1⟩
  | 127 => ⟨S_, .i32⟩
  | _ => ⟨S8x16x64, .f32⟩

abbrev hbmTy0_1 (i : Nat) : BufTy := match i % 128 with
  | 0 => ⟨S8x8, .i32⟩
  | 1 => ⟨S8x8, .i32⟩
  | 2 => ⟨S8x8, .i32⟩
  | 3 => ⟨S8x8, .i32⟩
  | 4 => ⟨S8x8x1, .i32⟩
  | 5 => ⟨S8x8x1, .i32⟩
  | 6 => ⟨S8x8x2, .i32⟩
  | 7 => ⟨S8x16384x64, .f32⟩
  | 8 => ⟨S1x8x64, .f32⟩
  | 9 => ⟨S_, .i32⟩
  | 10 => ⟨S_, .i32⟩
  | 11 => ⟨S16x8x64, .f32⟩
  | 12 => ⟨S_, .i32⟩
  | 13 => ⟨S_, .i32⟩
  | 14 => ⟨S8x16x64, .f32⟩
  | _ => ⟨S8x16x64, .f32⟩

abbrev hbmTy (i : Nat) : BufTy := match i / 128 with
  | 0 => hbmTy0_0 i
  | 1 => hbmTy0_1 i
  | _ => ⟨S8x16x64, .f32⟩

abbrev bufTy : (tb : Table) → Fin (tcTables nBuf tb) → BufTy
  | .hbm, ⟨i, _⟩ => hbmTy i
  | _, _ => ⟨S8x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev main_v6_9 : Ref sig .tc := ⟨.hbm, 27, rfl⟩
abbrev main_v6_10 : Ref sig .tc := ⟨.hbm, 28, rfl⟩
abbrev main_v6_11 : Ref sig .tc := ⟨.hbm, 29, rfl⟩
abbrev main_v6_12 : Ref sig .tc := ⟨.hbm, 30, rfl⟩
abbrev main_while0c_c_12 : Ref sig .tc := ⟨.hbm, 31, rfl⟩
abbrev main_while0c_v8 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v8 : Ref sig .tc := ⟨.hbm, 36, rfl⟩
abbrev main_while0b_v9 : Ref sig .tc := ⟨.hbm, 37, rfl⟩
abbrev main_while0b_v10 : Ref sig .tc := ⟨.hbm, 38, rfl⟩
abbrev main_while0b_v11 : Ref sig .tc := ⟨.hbm, 39, rfl⟩
abbrev main_while0b_v12 : Ref sig .tc := ⟨.hbm, 40, rfl⟩
abbrev main_while0b_v13 : Ref sig .tc := ⟨.hbm, 41, rfl⟩
abbrev main_while0b_v14 : Ref sig .tc := ⟨.hbm, 42, rfl⟩
abbrev main_while0b_v15 : Ref sig .tc := ⟨.hbm, 43, rfl⟩
abbrev main_while0b_v16 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_cst_12 : Ref sig .tc := ⟨.hbm, 53, rfl⟩
abbrev main_while0b_v25 : Ref sig .tc := ⟨.hbm, 54, rfl⟩
abbrev main_while0b_v26 : Ref sig .tc := ⟨.hbm, 55, rfl⟩
abbrev main_while0b_cst_13 : Ref sig .tc := ⟨.hbm, 56, rfl⟩
abbrev main_while0b_v27 : Ref sig .tc := ⟨.hbm, 57, rfl⟩
abbrev main_while0b_cst_14 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_cst_15 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_v39 : Ref sig .tc := ⟨.hbm, 71, rfl⟩
abbrev main_while0b_v40 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_cst_16 : Ref sig .tc := ⟨.hbm, 79, rfl⟩
abbrev main_while0b_v47 : Ref sig .tc := ⟨.hbm, 80, rfl⟩
abbrev main_while0b_v48 : Ref sig .tc := ⟨.hbm, 81, rfl⟩
abbrev main_while0b_cst_17 : Ref sig .tc := ⟨.hbm, 82, rfl⟩
abbrev main_while0b_v49 : Ref sig .tc := ⟨.hbm, 83, rfl⟩
abbrev main_while0b_v50 : Ref sig .tc := ⟨.hbm, 84, rfl⟩
abbrev main_while0b_values : Ref sig .tc := ⟨.hbm, 85, rfl⟩
abbrev main_while0b_indices : Ref sig .tc := ⟨.hbm, 86, rfl⟩
abbrev main_while0b_c_18 : Ref sig .tc := ⟨.hbm, 87, rfl⟩
abbrev main_while0b_v51 : Ref sig .tc := ⟨.hbm, 88, rfl⟩
abbrev main_while0b_v52 : Ref sig .tc := ⟨.hbm, 89, rfl⟩
abbrev main_while0b_c_19 : Ref sig .tc := ⟨.hbm, 90, rfl⟩
abbrev main_while0b_v53 : Ref sig .tc := ⟨.hbm, 91, rfl⟩
abbrev main_while0b_v54 : Ref sig .tc := ⟨.hbm, 92, rfl⟩
abbrev main_while0b_v55 : Ref sig .tc := ⟨.hbm, 93, rfl⟩
abbrev main_while0b_c_20 : Ref sig .tc := ⟨.hbm, 94, rfl⟩
abbrev main_while0b_v56 : Ref sig .tc := ⟨.hbm, 95, rfl⟩
abbrev main_while0b_v57 : Ref sig .tc := ⟨.hbm, 96, rfl⟩
abbrev main_while0b_c_21 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_cst_22 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_c_23 : Ref sig .tc := ⟨.hbm, 117, rfl⟩
abbrev main_while0b_v76 : Ref sig .tc := ⟨.hbm, 118, rfl⟩
abbrev main_while0b_v77 : Ref sig .tc := ⟨.hbm, 119, rfl⟩
abbrev main_while0b_c_24 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_c_25 : Ref sig .tc := ⟨.hbm, 124, rfl⟩
abbrev main_while0b_v81 : Ref sig .tc := ⟨.hbm, 125, rfl⟩
abbrev main_while0b_v82 : Ref sig .tc := ⟨.hbm, 126, rfl⟩
abbrev main_while0b_c_26 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_call1_v0 : Ref sig .tc := ⟨.hbm, 136, rfl⟩
abbrev main_while0b_call1_c : Ref sig .tc := ⟨.hbm, 137, rfl⟩
abbrev main_while0b_call1_c_0 : Ref sig .tc := ⟨.hbm, 138, rfl⟩
abbrev main_while0b_v91 : Ref sig .tc := ⟨.hbm, 139, rfl⟩
abbrev main_while0b_c_27 : Ref sig .tc := ⟨.hbm, 140, rfl⟩
abbrev main_while0b_v92 : Ref sig .tc := ⟨.hbm, 141, rfl⟩
abbrev main_v7 : Ref sig .tc := ⟨.hbm, 142, rfl⟩

abbrev nD : Nat := 1
abbrev τ : Topo := Topo.v7x

variable {F : FTy → Type} [FloatOps F]

abbrev main_while0_count : Scf.Loop 32 := ⟨0#32, 16#32, 1#32⟩
-- ==== Proof.KernelIdealLoop.lean ====
/- The outer counted loop of the kernel body (`k0_t2_loop`, sixteen trips, one per time step): what one trip writes,
   the contents of the written buffers before every trip, and the loop's invariant. -/
module

public import proofs.«01_k».proof.Proof.Gen.KernelIdeal.Loops

@[expose] public section

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

/-- What a time step holds: the ten buffers it only reads, at `X·`, and the four it writes, at `f·`. -/
abbrev Held (c : Dev nD)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (f11 : BufTy.Contents (Elt F) arg11.view.ty) (f12 : BufTy.Contents (Elt F) arg12.view.ty)
    (f13 : BufTy.Contents (Elt F) arg13.view.ty) (f14 : BufTy.Contents (Elt F) arg14.view.ty) : sProp 𝕄G :=
  iprop((arg0.view.loc (c : Thread nD τ) ↦[arg0.view.set]{fullShare} X0) ∗
    (arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg5.view.loc (c : Thread nD τ) ↦[arg5.view.set]{fullShare} X5) ∗
    (arg6.view.loc (c : Thread nD τ) ↦[arg6.view.set]{fullShare} X6) ∗
    (arg7.view.loc (c : Thread nD τ) ↦[arg7.view.set]{fullShare} X7) ∗
    (arg8.view.loc (c : Thread nD τ) ↦[arg8.view.set]{fullShare} X8) ∗
    (arg9.view.loc (c : Thread nD τ) ↦[arg9.view.set]{fullShare} X9) ∗
    (arg10.view.loc (c : Thread nD τ) ↦[arg10.view.set]{fullShare} X10) ∗
    (arg11.view.loc (c : Thread nD τ) ↦[arg11.view.set]{fullShare} f11) ∗
    (arg12.view.loc (c : Thread nD τ) ↦[arg12.view.set]{fullShare} f12) ∗
    (arg13.view.loc (c : Thread nD τ) ↦[arg13.view.set]{fullShare} f13) ∗
    (arg14.view.loc (c : Thread nD τ) ↦[arg14.view.set]{fullShare} f14))

set_option maxHeartbeats 16000000 in
/-- One time step at a symbolic trip `k`: what it leaves in the output, the state, the weights and the mask,
   as functions of the contents it finds there. -/
@[irreducible] def trip (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (k : Fin k0_t2_loop.trips) :
    Σ' (R11 : BufTy.Contents (Elt F) arg11.view.ty → BufTy.Contents (Elt F) arg12.view.ty → BufTy.Contents (Elt F) arg13.view.ty → BufTy.Contents (Elt F) arg14.view.ty → BufTy.Contents (Elt F) arg11.view.ty)
       (R12 : BufTy.Contents (Elt F) arg11.view.ty → BufTy.Contents (Elt F) arg12.view.ty → BufTy.Contents (Elt F) arg13.view.ty → BufTy.Contents (Elt F) arg14.view.ty → BufTy.Contents (Elt F) arg12.view.ty)
       (R13 : BufTy.Contents (Elt F) arg11.view.ty → BufTy.Contents (Elt F) arg12.view.ty → BufTy.Contents (Elt F) arg13.view.ty → BufTy.Contents (Elt F) arg14.view.ty → BufTy.Contents (Elt F) arg13.view.ty),
    { R14 : BufTy.Contents (Elt F) arg11.view.ty → BufTy.Contents (Elt F) arg12.view.ty → BufTy.Contents (Elt F) arg13.view.ty → BufTy.Contents (Elt F) arg14.view.ty → BufTy.Contents (Elt F) arg14.view.ty //
      ∀ (E : Set ℕ) (acc : Unit)
    (f11 : BufTy.Contents (Elt F) arg11.view.ty) (f12 : BufTy.Contents (Elt F) arg12.view.ty)
    (f13 : BufTy.Contents (Elt F) arg13.view.ty) (f14 : BufTy.Contents (Elt F) arg14.view.ty),
      Held (F := F) c
      arg0 harg0 arg1 harg1 arg2 harg2 arg3 harg3 arg4 harg4 arg5 harg5 arg6 harg6 arg7 harg7 arg8 harg8 arg9
      harg9 arg10 harg10 arg11 harg11 arg12 harg12 arg13 harg13 arg14 harg14
        X0 X2 X3 X4 X5 X6 X7 X8 X9 X10 f11 f12 f13 f14
      ⊢ wp frame (wpE (defs₀ (F := F)) 𝒱 (c : Thread nD τ) bd) E (k0_t2_body (F := F)
      arg0 harg0 arg1 harg1 arg2 harg2 arg3 harg3 arg4 harg4 arg5 harg5 arg6 harg6 arg7 harg7 arg8 harg8 arg9
      harg9 arg10 harg10 arg11 harg11 arg12 harg12 arg13 harg13 arg14 harg14 k acc)
          (fun _ => Held (F := F) c
      arg0 harg0 arg1 harg1 arg2 harg2 arg3 harg3 arg4 harg4 arg5 harg5 arg6 harg6 arg7 harg7 arg8 harg8 arg9
      harg9 arg10 harg10 arg11 harg11 arg12 harg12 arg13 harg13 arg14 harg14
            X0 X2 X3 X4 X5 X6 X7 X8 X9 X10
            (R11 f11 f12 f13 f14)
            (R12 f11 f12 f13 f14)
            (R13 f11 f12 f13 f14)
            (R14 f11 f12 f13 f14)) } := by
  have hk : k.val < 16 := Nat.lt_of_lt_of_le k.isLt k0_t2_abs.2.1
  refine ⟨?_, ?_, ?_, ?_, fun E acc f11 f12 f13 f14 => ?run⟩
  case run =>
    unfold k0_t2_body
    iintro ⟨H0, H2, H3, H4, H5, H6, H7, H8, H9, H10, H11, H12, H13, H14⟩
    sl_exec
    sl_step
    sl_close

/-- The contents of the four written buffers. -/
abbrev St (F : FTy → Type) [FloatOps F]
    (arg11 : Memref sig .tc .vmem S16x8x64 .f32) (arg12 : Memref sig .tc .vmem S8x64x16384 .f32)
    (arg13 : Memref sig .tc .vmem S8x16384 .f32) (arg14 : Memref sig .tc .vmem S8x16384 .f32) :=
  BufTy.Contents (Elt F) arg11.view.ty × BufTy.Contents (Elt F) arg12.view.ty × BufTy.Contents (Elt F) arg13.view.ty × BufTy.Contents (Elt F) arg14.view.ty

/-- The contents before trip `k`, from those at the loop's entry. -/
def st (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : St F arg11 arg12 arg13 arg14) : ℕ → St F arg11 arg12 arg13 arg14
  | 0 => G
  | k + 1 =>
    let s := st 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 G k
    if h : k < k0_t2_loop.trips then
      let T := trip (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 ⟨k, h⟩
      (T.1 s.1 s.2.1 s.2.2.1 s.2.2.2,
       T.2.1 s.1 s.2.1 s.2.2.1 s.2.2.2,
       T.2.2.1 s.1 s.2.1 s.2.2.1 s.2.2.2,
       T.2.2.2.1 s.1 s.2.1 s.2.2.1 s.2.2.2)
    else s

theorem st_succ (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : St F arg11 arg12 arg13 arg14) (k : Fin k0_t2_loop.trips) :
    st (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 G (k.val + 1) =
    (
    let s := st 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 G k.val
    let T := trip (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 k
    (T.1 s.1 s.2.1 s.2.2.1 s.2.2.2,
     T.2.1 s.1 s.2.1 s.2.2.1 s.2.2.2,
     T.2.2.1 s.1 s.2.1 s.2.2.1 s.2.2.2,
     T.2.2.2.1 s.1 s.2.1 s.2.2.1 s.2.2.2)) := by
  rw [st.eq_2]
  exact dif_pos k.isLt

/-- The invariant before trip `k`. -/
def inv (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : St F arg11 arg12 arg13 arg14) (k : ℕ) : sProp 𝕄G :=
  let s := st (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 G k
  iprop((arg0.view.loc (c : Thread nD τ) ↦[arg0.view.set]{fullShare} X0) ∗
    (arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg5.view.loc (c : Thread nD τ) ↦[arg5.view.set]{fullShare} X5) ∗
    (arg6.view.loc (c : Thread nD τ) ↦[arg6.view.set]{fullShare} X6) ∗
    (arg7.view.loc (c : Thread nD τ) ↦[arg7.view.set]{fullShare} X7) ∗
    (arg8.view.loc (c : Thread nD τ) ↦[arg8.view.set]{fullShare} X8) ∗
    (arg9.view.loc (c : Thread nD τ) ↦[arg9.view.set]{fullShare} X9) ∗
    (arg10.view.loc (c : Thread nD τ) ↦[arg10.view.set]{fullShare} X10) ∗
    (∃ f, (arg11.view.loc (c : Thread nD τ) ↦[arg11.view.set]{fullShare} f) ∗ ⌜f = s.1⌝) ∗
    (∃ f, (arg12.view.loc (c : Thread nD τ) ↦[arg12.view.set]{fullShare} f) ∗ ⌜f = s.2.1⌝) ∗
    (∃ f, (arg13.view.loc (c : Thread nD τ) ↦[arg13.view.set]{fullShare} f) ∗ ⌜f = s.2.2.1⌝) ∗
    (∃ f, (arg14.view.loc (c : Thread nD τ) ↦[arg14.view.set]{fullShare} f) ∗ ⌜f = s.2.2.2⌝))

set_option maxHeartbeats 4000000 in
/-- The outer loop goes through: every trip takes the contents before it to the contents before the next. -/
@[sl_loop, reducible] def loopInv_k0_t2 (𝒱 : Variants) (c : Dev nD) (bd : Option 𝒱.V) (E : Set ℕ)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G11 : BufTy.Contents (Elt F) arg11.view.ty) (G12 : BufTy.Contents (Elt F) arg12.view.ty) (G13 : BufTy.Contents (Elt F) arg13.view.ty) (G14 : BufTy.Contents (Elt F) arg14.view.ty) :
    LoopInvTy_k0_t2 (F := F) Unit ℕ (UR sig nD τ) ℕ 𝒱 c bd E
      arg0 harg0 arg1 harg1 arg2 harg2 arg3 harg3 arg4 harg4 arg5 harg5 arg6 harg6 arg7 harg7 arg8 harg8 arg9
      harg9 arg10 harg10 arg11 harg11 arg12 harg12 arg13 harg13 arg14 harg14 where
  inv k _ := inv (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 (G11, G12, G13, G14) k
  step k acc := by
    unfold inv
    iintro ⟨H0, H2, H3, H4, H5, H6, H7, H8, H9, H10, ⟨%f11, H11, %e11⟩, ⟨%f12, H12, %e12⟩, ⟨%f13, H13, %e13⟩, ⟨%f14, H14, %e14⟩⟩
    subst e11 e12 e13 e14
    iapply (wp_wand_r Idealize.ShloMosaic.frame)
    isplitl [H0 H2 H3 H4 H5 H6 H7 H8 H9 H10 H11 H12 H13 H14]
    · iapply ((trip (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
        X0 X2 X3 X4 X5 X6 X7 X8 X9 X10 k).2.2.2.2 E acc _ _ _ _)
      sl_close
    · iintro %yld ⟨H0, H2, H3, H4, H5, H6, H7, H8, H9, H10, H11, H12, H13, H14⟩
      rw [st_succ]
      sl_close

end Cert.KernelIdeal.Outer
-- ==== Proof.KernelIdealModel.lean ====
/- What the kernel computes, over whole vectors: the four inner loops and the outer loop as recursions on the values the
   buffers hold, with no buffer in sight. -/
module

public import proofs.«01_k».proof.Proof.Gen.KernelIdeal.Skeleton
public import Idealize.ShloMosaic.Lib.VecWindow
public import Idealize.ShloMosaic.Lib.Exec

@[expose] public section

set_option maxRecDepth 16384

noncomputable section

namespace Cert.KernelIdeal.Model

open Cert.KernelIdeal Cert.KernelIdeal.Gen
open Idealize.ShloMosaic Idealize.ShloMosaic.TcCoe
open Idealize.ShloMosaic.VecWindow (window put)

variable {F : FTy → Type} [FloatOps F]

/-! ## The start: the state is the memory copied to every batch row, the mask is zero -/

/-- The state after `k` chunks of the copy, over what it held. -/
def copy (m : Vec F S64x16384 .f32) (b : Vec F S8x64x16384 .f32) : ℕ → Vec F S8x64x16384 .f32
  | 0 => b
  | k + 1 => if h : k < k0_t1_loop.trips then
      put (copy m b k) (k0_off2 ⟨k, h⟩) S8x64x2048.size
        (k0_pay1 (window m (k0_off1 ⟨k, h⟩) S64x2048.size (k0_off1_inb ⟨k, h⟩)))
    else copy m b k

/-- The mask after `k` chunks of the start. -/
def clear (b : Vec F S8x16384 .f32) : ℕ → Vec F S8x16384 .f32
  | 0 => b
  | k + 1 => if h : k < k0_t1_loop.trips then
      put (clear b k) (k0_off3 ⟨k, h⟩) S8x2048.size k0_pay2
    else clear b k

/-! ## One time step -/

/-- The operands a time step reads. -/
structure Ins (F : FTy → Type) [FloatOps F] where
  x : Vec F S16x8x64 .f32
  wq : Vec F S64x64 .f32
  wk : Vec F S64x64 .f32
  wv : Vec F S64x64 .f32
  u1 : Vec F S64x64 .f32
  u2 : Vec F S64x64 .f32
  bq : Vec F S1x64 .f32
  bk : Vec F S1x64 .f32
  bv : Vec F S1x64 .f32
  bu : Vec F S1x64 .f32

/-- The step's input rows. -/
def Ins.xt (I : Ins F) (t : Fin k0_t2_loop.trips) : Vec F S1x8x64 .f32 :=
  window I.x (k0_off4 t) S1x8x64.size (k0_off4_inb t)
/-- The queries carried over to the memory's coordinates. -/
def Ins.qk (I : Ins F) (t : Fin k0_t2_loop.trips) : FVec F S8x64 .f32 := k0_pay11 (I.xt t) I.wq I.bq I.wk
/-- The queries against the key bias. -/
def Ins.qbk (I : Ins F) (t : Fin k0_t2_loop.trips) : FVec F S8x1 .f32 := k0_pay12 (I.xt t) I.wq I.bq I.bk

/-- Batch row 0 of the state. -/
def row0 (c : Vec F S8x64x16384 .f32) : Vec F S1x64x16384 .f32 :=
  window c ![0, 0, 0] S1x64x16384.size inb_S8x64x16384_S1x64x16384_0_0_0

/-- Batch row 1 of the state. -/
def row1 (c : Vec F S8x64x16384 .f32) : Vec F S1x64x16384 .f32 :=
  window c ![1, 0, 0] S1x64x16384.size inb_S8x64x16384_S1x64x16384_1_0_0

/-- Batch row 2 of the state. -/
def row2 (c : Vec F S8x64x16384 .f32) : Vec F S1x64x16384 .f32 :=
  window c ![2, 0, 0] S1x64x16384.size inb_S8x64x16384_S1x64x16384_2_0_0

/-- Batch row 3 of the state. -/
def row3 (c : Vec F S8x64x16384 .f32) : Vec F S1x64x16384 .f32 :=
  window c ![3, 0, 0] S1x64x16384.size inb_S8x64x16384_S1x64x16384_3_0_0

/-- Batch row 4 of the state. -/
def row4 (c : Vec F S8x64x16384 .f32) : Vec F S1x64x16384 .f32 :=
  window c ![4, 0, 0] S1x64x16384.size inb_S8x64x16384_S1x64x16384_4_0_0

/-- Batch row 5 of the state. -/
def row5 (c : Vec F S8x64x16384 .f32) : Vec F S1x64x16384 .f32 :=
  window c ![5, 0, 0] S1x64x16384.size inb_S8x64x16384_S1x64x16384_5_0_0

/-- Batch row 6 of the state. -/
def row6 (c : Vec F S8x64x16384 .f32) : Vec F S1x64x16384 .f32 :=
  window c ![6, 0, 0] S1x64x16384.size inb_S8x64x16384_S1x64x16384_6_0_0

/-- Batch row 7 of the state. -/
def row7 (c : Vec F S8x64x16384 .f32) : Vec F S1x64x16384 .f32 :=
  window c ![7, 0, 0] S1x64x16384.size inb_S8x64x16384_S1x64x16384_7_0_0

/-- The logits, row by row. -/
def logits (I : Ins F) (t : Fin k0_t2_loop.trips) (c : Vec F S8x64x16384 .f32) : Vec F S8x16384 .f32 :=
  put (put (put (put (put (put (put (put (fun _ => @Classical.arbitrary _ (Elt.nonempty F .f32))
      ![0, 0] S1x16384.size (k0_pay14 (I.xt t) I.wq I.bq I.wk I.bk (row0 c)))
      ![1, 0] S1x16384.size (k0_pay18 (I.qbk t) (k0_pay16 (I.xt t) I.wq I.bq I.wk) (row1 c)))
      ![2, 0] S1x16384.size (k0_pay21 (I.qk t) (I.qbk t) (row2 c)))
      ![3, 0] S1x16384.size (k0_pay24 (I.qk t) (I.qbk t) (row3 c)))
      ![4, 0] S1x16384.size (k0_pay27 (I.qk t) (I.qbk t) (row4 c)))
      ![5, 0] S1x16384.size (k0_pay30 (I.qk t) (I.qbk t) (row5 c)))
      ![6, 0] S1x16384.size (k0_pay35 (k0_pay32 (I.qk t) (row6 c)) (k0_pay33 (I.qbk t))))
      ![7, 0] S1x16384.size (k0_pay37 (I.qk t) (I.qbk t) (row7 c))

/-- The second pass after `k` chunks: the sums of the weights, the weighted sums of the state, and the logits with the
    chunks done replaced by their weights. -/
def soft (v13 : FVec F S8x64 .f32) (v19 : FVec F S8x1 .f32) (v33 : FVec F S1x1 .f32) (v47 : FVec F S1x1 .f32) (v61 : FVec F S1x1 .f32) (v75 : FVec F S1x1 .f32) (v89 : FVec F S1x1 .f32) (v103 : FVec F S1x1 .f32) (v107 : FVec F S1x16384 .f32) (v109 : FVec F S1x16384 .f32) (v119 : Vec F S1x64x16384 .f32)
    (c : Vec F S8x64x16384 .f32) (l : Vec F S8x16384 .f32) :
    ℕ → (FVec F S8x1 .f32 × FVec F S8x64 .f32) × Vec F S8x16384 .f32
  | 0 => ((k0_pay38, k0_pay39), l)
  | k + 1 =>
    let p := soft v13 v19 v33 v47 v61 v75 v89 v103 v107 v109 v119 c l k
    if h : k < k0_t3_loop.trips then
      let w := window p.2 (k0_off5 ⟨k, h⟩) S8x2048.size (k0_off5_inb ⟨k, h⟩)
      ((k0_pay42 v13 v19 v33 v47 v61 v75 v89 v103 v107 v109 v119 p.1.1 w,
        k0_pay43 v13 v19 v33 v47 v61 v75 v89 v103 v107 v109 v119 p.1.2 w
          (window c (k0_off6 ⟨k, h⟩) S8x64x2048.size (k0_off6_inb ⟨k, h⟩))),
       put p.2 (k0_off5 ⟨k, h⟩) S8x2048.size (k0_pay41 v13 v19 v33 v47 v61 v75 v89 v103 v107 v109 v119 w))
    else p

/-- The second pass of a time step, through all its chunks. -/
def softAt (I : Ins F) (t : Fin k0_t2_loop.trips) (c : Vec F S8x64x16384 .f32) (k : ℕ) :
    (FVec F S8x1 .f32 × FVec F S8x64 .f32) × Vec F S8x16384 .f32 :=
  soft (I.qk t) (I.qbk t)
    (k0_pay15 (I.xt t) I.wq I.bq I.wk I.bk (row0 c))
    (k0_pay19 (I.qbk t) (k0_pay16 (I.xt t) I.wq I.bq I.wk) (row1 c))
    (k0_pay22 (I.qk t) (I.qbk t) (row2 c))
    (k0_pay25 (k0_pay23 (I.qk t) (I.qbk t) (row3 c)))
    (k0_pay28 (I.qk t) (I.qbk t) (row4 c))
    (k0_pay31 (I.qk t) (I.qbk t) (row5 c))
    (k0_pay32 (I.qk t) (row6 c))
    (k0_pay33 (I.qbk t))
    (row7 c)
    c (logits I t c) k

/-- The selection after `k` rounds: each round marks the largest weight not yet marked. -/
def pick (e m : Vec F S8x16384 .f32) : ℕ → Vec F S8x16384 .f32
  | 0 => m
  | k + 1 => if k < k0_t4_loop.trips then k0_pay5 (k0_pay8 (pick e m k) e (pick e m k)) else pick e m k

/-- The update after `k` chunks: the state and the mask. -/
def upd (v4 v141 v144 : FVec F S8x64 .f32) (v150 v153 : Vec F S64x64 .f32) (v157 : Vec F S1x64 .f32)
    (c : Vec F S8x64x16384 .f32) (m : Vec F S8x16384 .f32) : ℕ → Vec F S8x64x16384 .f32 × Vec F S8x16384 .f32
  | 0 => (c, m)
  | k + 1 =>
    let p := upd v4 v141 v144 v150 v153 v157 c m k
    if h : k < k0_t5_loop.trips then
      (put p.1 (k0_off8 ⟨k, h⟩) S8x64x2048.size
        (k0_pay6 v4 v141 v144 v150 v153 v157
          (window p.1 (k0_off8 ⟨k, h⟩) S8x64x2048.size (k0_off8_inb ⟨k, h⟩))
          (window p.2 (k0_off9 ⟨k, h⟩) S8x2048.size (k0_off9_inb ⟨k, h⟩))),
       put p.2 (k0_off9 ⟨k, h⟩) S8x2048.size k0_pay7)
    else p

/-- The read-out before its bias. -/
def att (I : Ins F) (t : Fin k0_t2_loop.trips) (c : Vec F S8x64x16384 .f32) : FVec F S8x64 .f32 :=
  k0_pay44 (softAt I t c k0_t3_loop.trips).1.1 (softAt I t c k0_t3_loop.trips).1.2 I.wv

/-- The row the step stores. -/
def outRow (I : Ins F) (t : Fin k0_t2_loop.trips) (c : Vec F S8x64x16384 .f32) : FVec F S1x8x64 .f32 :=
  k0_pay4 (att I t c) (k0_pay45 I.bv)

/-- The state and the mask after the step. -/
def next (I : Ins F) (t : Fin k0_t2_loop.trips) (c : Vec F S8x64x16384 .f32) (m : Vec F S8x16384 .f32) :
    Vec F S8x64x16384 .f32 × Vec F S8x16384 .f32 :=
  upd (k0_pay9 (I.xt t)) (att I t c) (k0_pay45 I.bv) I.u1 I.u2 I.bu c
    (pick (softAt I t c k0_t3_loop.trips).2 m k0_t4_loop.trips) k0_t5_loop.trips

/-! ## The sixteen steps -/

/-- The state and the mask before step `k`. -/
def states (I : Ins F) (c : Vec F S8x64x16384 .f32) (m : Vec F S8x16384 .f32) :
    ℕ → Vec F S8x64x16384 .f32 × Vec F S8x16384 .f32
  | 0 => (c, m)
  | k + 1 => if h : k < k0_t2_loop.trips then next I ⟨k, h⟩ (states I c m k).1 (states I c m k).2 else states I c m k

/-- The output before step `k`, over what it held. -/
def outs (I : Ins F) (c : Vec F S8x64x16384 .f32) (m : Vec F S8x16384 .f32) (b : Vec F S16x8x64 .f32) :
    ℕ → Vec F S16x8x64 .f32
  | 0 => b
  | k + 1 => if h : k < k0_t2_loop.trips then
      put (outs I c m b k) (k0_off4 ⟨k, h⟩) S1x8x64.size (outRow I ⟨k, h⟩ (states I c m k).1)
    else outs I c m b k

/-- What the whole body leaves in its output, from its eleven operands: nothing of what its buffers held before. -/
def result (m : Vec F S64x16384 .f32) (I : Ins F) : Vec F S16x8x64 .f32 :=
  outs I (copy m (fun _ => @Classical.arbitrary _ (Elt.nonempty F .f32)) k0_t1_loop.trips)
    (clear (fun _ => @Classical.arbitrary _ (Elt.nonempty F .f32)) k0_t1_loop.trips) (fun _ => @Classical.arbitrary _ (Elt.nonempty F .f32)) k0_t2_loop.trips

/-! ## One trip more -/

theorem soft_succ (v13 : FVec F S8x64 .f32) (v19 : FVec F S8x1 .f32) (v33 : FVec F S1x1 .f32) (v47 : FVec F S1x1 .f32) (v61 : FVec F S1x1 .f32) (v75 : FVec F S1x1 .f32) (v89 : FVec F S1x1 .f32) (v103 : FVec F S1x1 .f32) (v107 : FVec F S1x16384 .f32) (v109 : FVec F S1x16384 .f32) (v119 : Vec F S1x64x16384 .f32)
    (c : Vec F S8x64x16384 .f32) (l : Vec F S8x16384 .f32) (k : ℕ) (h : k < k0_t3_loop.trips) :
    soft v13 v19 v33 v47 v61 v75 v89 v103 v107 v109 v119 c l (k + 1) =
      ((k0_pay42 v13 v19 v33 v47 v61 v75 v89 v103 v107 v109 v119 (soft v13 v19 v33 v47 v61 v75 v89 v103 v107 v109 v119 c l k).1.1
          (window (soft v13 v19 v33 v47 v61 v75 v89 v103 v107 v109 v119 c l k).2 (k0_off5 ⟨k, h⟩) S8x2048.size (k0_off5_inb ⟨k, h⟩)),
        k0_pay43 v13 v19 v33 v47 v61 v75 v89 v103 v107 v109 v119 (soft v13 v19 v33 v47 v61 v75 v89 v103 v107 v109 v119 c l k).1.2
          (window (soft v13 v19 v33 v47 v61 v75 v89 v103 v107 v109 v119 c l k).2 (k0_off5 ⟨k, h⟩) S8x2048.size (k0_off5_inb ⟨k, h⟩))
          (window c (k0_off6 ⟨k, h⟩) S8x64x2048.size (k0_off6_inb ⟨k, h⟩))),
       put (soft v13 v19 v33 v47 v61 v75 v89 v103 v107 v109 v119 c l k).2 (k0_off5 ⟨k, h⟩) S8x2048.size (k0_pay41 v13 v19 v33 v47 v61 v75 v89 v103 v107 v109 v119
          (window (soft v13 v19 v33 v47 v61 v75 v89 v103 v107 v109 v119 c l k).2 (k0_off5 ⟨k, h⟩) S8x2048.size (k0_off5_inb ⟨k, h⟩)))) := by
  rw [soft]
  exact dif_pos h

theorem upd_succ (v4 v141 v144 : FVec F S8x64 .f32) (v150 v153 : Vec F S64x64 .f32) (v157 : Vec F S1x64 .f32)
    (c : Vec F S8x64x16384 .f32) (m : Vec F S8x16384 .f32) (k : ℕ) (h : k < k0_t5_loop.trips) :
    upd v4 v141 v144 v150 v153 v157 c m (k + 1) =
      (put (upd v4 v141 v144 v150 v153 v157 c m k).1 (k0_off8 ⟨k, h⟩) S8x64x2048.size
        (k0_pay6 v4 v141 v144 v150 v153 v157
          (window (upd v4 v141 v144 v150 v153 v157 c m k).1 (k0_off8 ⟨k, h⟩) S8x64x2048.size (k0_off8_inb ⟨k, h⟩))
          (window (upd v4 v141 v144 v150 v153 v157 c m k).2 (k0_off9 ⟨k, h⟩) S8x2048.size (k0_off9_inb ⟨k, h⟩))),
       put (upd v4 v141 v144 v150 v153 v157 c m k).2 (k0_off9 ⟨k, h⟩) S8x2048.size k0_pay7) := by
  rw [upd]
  exact dif_pos h

theorem states_succ (I : Ins F) (c : Vec F S8x64x16384 .f32) (m : Vec F S8x16384 .f32) (k : ℕ)
    (h : k < k0_t2_loop.trips) :
    states I c m (k + 1) = next I ⟨k, h⟩ (states I c m k).1 (states I c m k).2 := by
  rw [states]
  exact dif_pos h

theorem outs_succ (I : Ins F) (c : Vec F S8x64x16384 .f32) (m : Vec F S8x16384 .f32) (b : Vec F S16x8x64 .f32) (k : ℕ)
    (h : k < k0_t2_loop.trips) :
    outs I c m b (k + 1) = put (outs I c m b k) (k0_off4 ⟨k, h⟩) S1x8x64.size (outRow I ⟨k, h⟩ (states I c m k).1) := by
  rw [outs]
  exact dif_pos h

/-! ## Nothing of what the buffers held before is left -/

/-- Two windows put over two vectors agree where the window is, and where the vectors did. -/
theorem put_congr {s : Shape} {α : Type} (x x' : s.Idx → α) (off size : Fin s.rank → ℕ)
    (w : ((a : Fin s.rank) → Fin (size a)) → α) (y : s.Idx)
    (h : (∀ a, off a ≤ (y a).val ∧ (y a).val < off a + size a) ∨ x y = x' y) :
    put x off size w y = put x' off size w y := by
  unfold VecWindow.put
  split
  · rfl
  · rcases h with h | h
    · contradiction
    · exact h

theorem t1_trips : k0_t1_loop.trips = 8 := by decide +kernel
theorem t2_trips : k0_t2_loop.trips = 16 := by decide +kernel
theorem t3_trips : k0_t3_loop.trips = 8 := by decide +kernel
theorem t4_trips : k0_t4_loop.trips = 8 := by decide +kernel
theorem t5_trips : k0_t5_loop.trips = 8 := by decide +kernel

theorem copy_part (m : Vec F S64x16384 .f32) (b b' : Vec F S8x64x16384 .f32) (y : S8x64x16384.Idx) :
    ∀ k : ℕ, k ≤ 8 → (y 2).val < 2048 * k → copy m b k y = copy m b' k y
  | 0, _, h => by omega
  | k + 1, hk, h => by
    have hk' : k < k0_t1_loop.trips := by rw [t1_trips]; omega
    rw [copy, copy, dif_pos hk', dif_pos hk']
    apply put_congr
    by_cases hy : (y 2).val < 2048 * k
    · exact Or.inr (copy_part m b b' y k (by omega) hy)
    · left
      rw [k0_off2_eq]
      intro a
      have h0 := (y 0).isLt
      have h1 := (y 1).isLt
      match a with
      | 0 => exact ⟨Nat.zero_le _, by simpa using h0⟩
      | 1 => exact ⟨Nat.zero_le _, by simpa using h1⟩
      | 2 => exact ⟨by show 2048 * k ≤ _; omega, by show _ < 2048 * k + 2048; omega⟩

theorem copy_all (m : Vec F S64x16384 .f32) (b b' : Vec F S8x64x16384 .f32) :
    copy m b k0_t1_loop.trips = copy m b' k0_t1_loop.trips := by
  funext y
  rw [t1_trips]
  exact copy_part m b b' y 8 le_rfl (by have : (y 2).val < 16384 := (y 2).isLt; omega)

theorem clear_part (b b' : Vec F S8x16384 .f32) (y : S8x16384.Idx) :
    ∀ k : ℕ, k ≤ 8 → (y 1).val < 2048 * k → clear b k y = clear b' k y
  | 0, _, h => by omega
  | k + 1, hk, h => by
    have hk' : k < k0_t1_loop.trips := by rw [t1_trips]; omega
    rw [clear, clear, dif_pos hk', dif_pos hk']
    apply put_congr
    by_cases hy : (y 1).val < 2048 * k
    · exact Or.inr (clear_part b b' y k (by omega) hy)
    · left
      rw [k0_off3_eq]
      intro a
      have h0 := (y 0).isLt
      match a with
      | 0 => exact ⟨Nat.zero_le _, by simpa using h0⟩
      | 1 => exact ⟨by show 2048 * k ≤ _; omega, by show _ < 2048 * k + 2048; omega⟩

theorem clear_all (b b' : Vec F S8x16384 .f32) : clear b k0_t1_loop.trips = clear b' k0_t1_loop.trips := by
  funext y
  rw [t1_trips]
  exact clear_part b b' y 8 le_rfl (by have : (y 1).val < 16384 := (y 1).isLt; omega)

theorem outs_part (I : Ins F) (c : Vec F S8x64x16384 .f32) (m : Vec F S8x16384 .f32) (b b' : Vec F S16x8x64 .f32)
    (y : S16x8x64.Idx) : ∀ k : ℕ, k ≤ 16 → (y 0).val < k → outs I c m b k y = outs I c m b' k y
  | 0, _, h => by omega
  | k + 1, hk, h => by
    have hk' : k < k0_t2_loop.trips := by rw [t2_trips]; omega
    rw [outs, outs, dif_pos hk', dif_pos hk']
    apply put_congr
    by_cases hy : (y 0).val < k
    · exact Or.inr (outs_part I c m b b' y k (by omega) hy)
    · left
      rw [k0_off4_eq]
      intro a
      have h1 := (y 1).isLt
      have h2 := (y 2).isLt
      match a with
      | 0 => exact ⟨by show k ≤ _; omega, by show _ < k + 1; omega⟩
      | 1 => exact ⟨Nat.zero_le _, by simpa using h1⟩
      | 2 => exact ⟨Nat.zero_le _, by simpa using h2⟩

/-- The output after all the steps, whatever the buffers held at the start. -/
theorem result_eq (m : Vec F S64x16384 .f32) (I : Ins F) (b12 : Vec F S8x64x16384 .f32) (b14 : Vec F S8x16384 .f32)
    (b11 : Vec F S16x8x64 .f32) :
    outs I (copy m b12 k0_t1_loop.trips) (clear b14 k0_t1_loop.trips) b11 k0_t2_loop.trips = result m I := by
  unfold result
  rw [copy_all m b12 (fun _ => @Classical.arbitrary _ (Elt.nonempty F .f32)), clear_all b14 (fun _ => @Classical.arbitrary _ (Elt.nonempty F .f32))]
  funext y
  rw [t2_trips]
  exact outs_part _ _ _ _ _ y 16 le_rfl (y 0).isLt

end Cert.KernelIdeal.Model
-- ==== Proof.KernelIdealRead.lean ====
/- What the loops leave, read as whole vectors: the buffers' contents after each loop are those of `Model`. -/
module

public import proofs.«01_k».proof.Proof.KernelIdealLoop
public import proofs.«01_k».proof.Proof.KernelIdealModel
public import Idealize.ShloMosaic.Lib.Pipeline.FrameBody

@[expose] public section

set_option maxRecDepth 16384

noncomputable section

namespace Cert.KernelIdeal.Outer

open Cert.KernelIdeal Cert.KernelIdeal.Gen
open Idealize.ShloMosaic Idealize.ShloMosaic.TcCoe Idealize.ShloMosaic.Tactic
open Idealize.ShloMosaic.VecWindow (window put)

variable {F : FTy → Type} [FloatOps F]

/-- The starting loop: the memory copied, the mask cleared. -/
theorem read_t1 (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X1 : BufTy.Contents (Elt F) arg1.view.ty) (G12 : BufTy.Contents (Elt F) arg12.view.ty) (G14 : BufTy.Contents (Elt F) arg14.view.ty) :
    ∀ k : ℕ, k ≤ k0_t1_loop.trips →
    arg12.view.read (Elt F) (arg12.view.writes (Elt F) G12 (pb_k0_t1 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14 X1 k).1)
      = Model.copy (arg1.view.read (Elt F) X1) (arg12.view.read (Elt F) G12) k ∧
    arg14.view.read (Elt F) (arg14.view.writes (Elt F) G14 (pb_k0_t1 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14 X1 k).2)
      = Model.clear (arg14.view.read (Elt F) G14) k
  | 0, _ => ⟨rfl, rfl⟩
  | k + 1, hk => by
    obtain ⟨h1, h2⟩ := read_t1 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 X1 G12 G14 k (by omega)
    have e := pb_k0_t1_succ (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 X1 ⟨k, hk⟩
    simp only at e
    rw [e, Model.copy, Model.clear, dif_pos (show k < _ from hk), dif_pos (show k < _ from hk), ← h1, ← h2]
    try unfold tripL_k0_t1
    unfold trip_k0_t1
    exact ⟨View.read_writes_cons_put _ _ _ _ _ rfl, View.read_writes_cons_put _ _ _ _ _ rfl⟩

/-- The second pass. -/
theorem read_t3 (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (v13 : FVec F S8x64 .f32) (v19 : FVec F S8x1 .f32) (v33 : FVec F S1x1 .f32) (v47 : FVec F S1x1 .f32)
    (v61 : FVec F S1x1 .f32) (v75 : FVec F S1x1 .f32) (v89 : FVec F S1x1 .f32) (v103 : FVec F S1x1 .f32)
    (v107 : FVec F S1x16384 .f32) (v109 : FVec F S1x16384 .f32) (v119 : Vec F S1x64x16384 .f32)
    (X12 : BufTy.Contents (Elt F) arg12.view.ty) (G13 : BufTy.Contents (Elt F) arg13.view.ty) :
    ∀ k : ℕ, k ≤ k0_t3_loop.trips →
    ((st_k0_t3 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      v13 v19 v33 v47 v61 v75 v89 v103 v107 v109 v119 X12 G13 (k0_pay38, k0_pay39) k).1,
     arg13.view.read (Elt F) (arg13.view.writes (Elt F) G13 (st_k0_t3 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      v13 v19 v33 v47 v61 v75 v89 v103 v107 v109 v119 X12 G13 (k0_pay38, k0_pay39) k).2))
      = Model.soft v13 v19 v33 v47 v61 v75 v89 v103 v107 v109 v119 (arg12.view.read (Elt F) X12) (arg13.view.read (Elt F) G13) k
  | 0, _ => rfl
  | k + 1, hk => by
    have h := read_t3 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            v13 v19 v33 v47 v61 v75 v89 v103 v107 v109 v119 X12 G13 k (by omega)
    have e := st_k0_t3_succ (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            v13 v19 v33 v47 v61 v75 v89 v103 v107 v109 v119 X12 G13 (k0_pay38, k0_pay39) ⟨k, hk⟩
    simp only at e
    rw [e, Model.soft_succ _ _ _ _ _ _ _ _ _ _ _ _ _ _ hk, ← h]
    try unfold tripL_k0_t3
    try unfold tripR_k0_t3
    unfold trip_k0_t3
    exact Prod.ext rfl (View.read_writes_cons_put _ _ _ _ _ rfl)

/-- The selection. -/
theorem read_t4 (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X13 : BufTy.Contents (Elt F) arg13.view.ty) (G14 : BufTy.Contents (Elt F) arg14.view.ty) :
    ∀ k : ℕ, k ≤ k0_t4_loop.trips →
    arg14.view.read (Elt F) (arg14.view.writes (Elt F) G14 (pb_k0_t4 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14 X13 G14 k))
      = Model.pick (arg13.view.read (Elt F) X13) (arg14.view.read (Elt F) G14) k
  | 0, _ => rfl
  | k + 1, hk => by
    have h := read_t4 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 X13 G14 k (by omega)
    have e := pb_k0_t4_succ (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 X13 G14 ⟨k, hk⟩
    simp only at e
    rw [e, Model.pick, if_pos (show k < _ from hk), ← h]
    try unfold tripL_k0_t4
    unfold trip_k0_t4
    refine (View.read_writes_full _ _ _ _ _).trans ?_
    unfold trip_k0_t4.sl.r
    exact congrArg k0_pay5 (congr (congr (congrArg k0_pay8 (View.readAt_full _ _ _)) (View.readAt_full _ _ _))
      (View.readAt_full _ _ _))

/-- The update. -/
theorem read_t5 (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (v4 v141 v144 : FVec F S8x64 .f32) (v150 v153 : Vec F S64x64 .f32) (v157 : Vec F S1x64 .f32)
    (G12 : BufTy.Contents (Elt F) arg12.view.ty) (G14 : BufTy.Contents (Elt F) arg14.view.ty) :
    ∀ k : ℕ, k ≤ k0_t5_loop.trips →
    (arg12.view.read (Elt F) (arg12.view.writes (Elt F) G12 (pb_k0_t5 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14 v4 v141 v144 v150 v153 v157 G12 G14 k).1),
     arg14.view.read (Elt F) (arg14.view.writes (Elt F) G14 (pb_k0_t5 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14 v4 v141 v144 v150 v153 v157 G12 G14 k).2))
      = Model.upd v4 v141 v144 v150 v153 v157 (arg12.view.read (Elt F) G12) (arg14.view.read (Elt F) G14) k
  | 0, _ => rfl
  | k + 1, hk => by
    have h := read_t5 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 v4 v141 v144 v150 v153 v157 G12 G14 k (by omega)
    have e := pb_k0_t5_succ (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 v4 v141 v144 v150 v153 v157 G12 G14 ⟨k, hk⟩
    simp only at e
    rw [e, Model.upd_succ _ _ _ _ _ _ _ _ _ hk, ← h]
    try unfold tripL_k0_t5
    unfold trip_k0_t5
    exact Prod.ext (View.read_writes_cons_put _ _ _ _ _ rfl) (View.read_writes_cons_put _ _ _ _ _ rfl)

/-- The operands a time step reads, as the run finds them. -/
def ins
    (arg0 : Memref sig .tc .vmem S16x8x64 .f32) (arg2 : Memref sig .tc .vmem S64x64 .f32)
    (arg3 : Memref sig .tc .vmem S64x64 .f32) (arg4 : Memref sig .tc .vmem S64x64 .f32)
    (arg5 : Memref sig .tc .vmem S64x64 .f32) (arg6 : Memref sig .tc .vmem S64x64 .f32)
    (arg7 : Memref sig .tc .vmem S1x64 .f32) (arg8 : Memref sig .tc .vmem S1x64 .f32)
    (arg9 : Memref sig .tc .vmem S1x64 .f32) (arg10 : Memref sig .tc .vmem S1x64 .f32)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty) : Model.Ins F where
  x := arg0.view.read (Elt F) X0
  wq := (arg2.view.readAt (Elt F) (Rect.unit ![0, 0] S64x64.size inb_S64x64_S64x64_0_0).toLoadRect X2)
  wk := (arg3.view.readAt (Elt F) (Rect.unit ![0, 0] S64x64.size inb_S64x64_S64x64_0_0).toLoadRect X3)
  wv := (arg4.view.readAt (Elt F) (Rect.unit ![0, 0] S64x64.size inb_S64x64_S64x64_0_0).toLoadRect X4)
  u1 := (arg5.view.readAt (Elt F) (Rect.unit ![0, 0] S64x64.size inb_S64x64_S64x64_0_0).toLoadRect X5)
  u2 := (arg6.view.readAt (Elt F) (Rect.unit ![0, 0] S64x64.size inb_S64x64_S64x64_0_0).toLoadRect X6)
  bq := (arg7.view.readAt (Elt F) (Rect.unit ![0, 0] S1x64.size inb_S1x64_S1x64_0_0).toLoadRect X7)
  bk := (arg8.view.readAt (Elt F) (Rect.unit ![0, 0] S1x64.size inb_S1x64_S1x64_0_0).toLoadRect X8)
  bv := (arg9.view.readAt (Elt F) (Rect.unit ![0, 0] S1x64.size inb_S1x64_S1x64_0_0).toLoadRect X9)
  bu := (arg10.view.readAt (Elt F) (Rect.unit ![0, 0] S1x64.size inb_S1x64_S1x64_0_0).toLoadRect X10)

/-- The logits as the run writes them, eight rows over whatever the buffer held. -/
theorem read_logits
    (arg0 : Memref sig .tc .vmem S16x8x64 .f32) (arg2 : Memref sig .tc .vmem S64x64 .f32)
    (arg3 : Memref sig .tc .vmem S64x64 .f32) (arg4 : Memref sig .tc .vmem S64x64 .f32)
    (arg5 : Memref sig .tc .vmem S64x64 .f32) (arg6 : Memref sig .tc .vmem S64x64 .f32)
    (arg7 : Memref sig .tc .vmem S1x64 .f32) (arg8 : Memref sig .tc .vmem S1x64 .f32)
    (arg9 : Memref sig .tc .vmem S1x64 .f32) (arg10 : Memref sig .tc .vmem S1x64 .f32)
    (arg12 : Memref sig .tc .vmem S8x64x16384 .f32) (arg13 : Memref sig .tc .vmem S8x16384 .f32)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (f12 : BufTy.Contents (Elt F) arg12.view.ty) (k : Fin k0_t2_loop.trips) :
    arg13.view.read (Elt F) (arg13.view.writes (Elt F) arg13.view.junk
      (trip.sl.H13_8 arg0 arg2 arg3 arg7 arg8 arg12 X0 X2 X3 X7 X8 k f12)) =
    Model.logits
    (ins (F := F) arg0 arg2 arg3 arg4 arg5 arg6 arg7 arg8 arg9 arg10 X0 X2 X3 X4 X5 X6 X7 X8 X9 X10) k
      (arg12.view.read (Elt F) f12) := by
  have hj : arg13.view.read (Elt F) (arg13.view.junk (Val := Elt F)) =
      fun _ => @Classical.arbitrary _ (Elt.nonempty F .f32) :=
    funext fun y => View.read_junk_apply _ y
  unfold trip.sl.H13_8
  rw [View.read_writes_cons_put _ _ _ _ _ rfl, View.read_writes_cons_put _ _ _ _ _ rfl,
    View.read_writes_cons_put _ _ _ _ _ rfl, View.read_writes_cons_put _ _ _ _ _ rfl,
    View.read_writes_cons_put _ _ _ _ _ rfl, View.read_writes_cons_put _ _ _ _ _ rfl,
    View.read_writes_cons_put _ _ _ _ _ rfl, View.read_writes_cons_put _ _ _ _ _ rfl, View.writes_nil, hj]
  rfl

end Cert.KernelIdeal.Outer
-- ==== Proof.KernelIdealStep.lean ====
/- One time step and the sixteen of them, read as whole vectors: the contents before every trip of the outer loop are
   those of `Model`. -/
module

public import proofs.«01_k».proof.Proof.KernelIdealRead

@[expose] public section

set_option maxRecDepth 16384

noncomputable section

namespace Cert.KernelIdeal.Outer

open Cert.KernelIdeal Cert.KernelIdeal.Gen
open Idealize.ShloMosaic Idealize.ShloMosaic.TcCoe Idealize.ShloMosaic.Tactic
open Idealize.ShloMosaic.VecWindow (window put)

variable {F : FTy → Type} [FloatOps F]

/-- The second pass of the step as the run finds it. -/
theorem read_soft (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (f11 : BufTy.Contents (Elt F) arg11.view.ty) (f12 : BufTy.Contents (Elt F) arg12.view.ty)
    (f13 : BufTy.Contents (Elt F) arg13.view.ty) (f14 : BufTy.Contents (Elt F) arg14.view.ty)
    (k : Fin k0_t2_loop.trips) :
    ((st_k0_t3 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      (trip.sl.r_1 arg0 arg2 arg3 arg7 X0 X2 X3 X7 k) (trip.sl.r_2 arg0 arg2 arg7 arg8 X0 X2 X7 X8 k)
      (trip.sl.r_3 arg0 arg2 arg3 arg7 arg8 arg12 X0 X2 X3 X7 X8 k f12)
      (trip.sl.r_6 arg0 arg2 arg3 arg7 arg8 arg12 X0 X2 X3 X7 X8 k f12)
      (trip.sl.r_7 arg0 arg2 arg3 arg7 arg8 arg12 X0 X2 X3 X7 X8 k f12)
      (trip.sl.r_10 arg0 arg2 arg3 arg7 arg8 arg12 X0 X2 X3 X7 X8 k f12)
      (trip.sl.r_11 arg0 arg2 arg3 arg7 arg8 arg12 X0 X2 X3 X7 X8 k f12)
      (trip.sl.r_12 arg0 arg2 arg3 arg7 arg8 arg12 X0 X2 X3 X7 X8 k f12)
      (trip.sl.r_13 arg0 arg2 arg3 arg7 arg12 X0 X2 X3 X7 k f12)
      (trip.sl.r_14 arg0 arg2 arg7 arg8 X0 X2 X7 X8 k)
      (View.readAt (Elt F) arg12.view (Rect.unit (s := S8x64x16384) ![7, 0, 0] S1x64x16384.size inb_S8x64x16384_S1x64x16384_7_0_0).toLoadRect f12)
      f12 (arg13.view.writes (Elt F) arg13.view.junk (trip.sl.H13_8 arg0 arg2 arg3 arg7 arg8 arg12 X0 X2 X3 X7 X8 k f12))
      (k0_pay38, k0_pay39) k0_t3_loop.trips).1,
     arg13.view.read (Elt F) (arg13.view.writes (Elt F)
      (arg13.view.writes (Elt F) arg13.view.junk (trip.sl.H13_8 arg0 arg2 arg3 arg7 arg8 arg12 X0 X2 X3 X7 X8 k f12))
      (st_k0_t3 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      (trip.sl.r_1 arg0 arg2 arg3 arg7 X0 X2 X3 X7 k) (trip.sl.r_2 arg0 arg2 arg7 arg8 X0 X2 X7 X8 k)
      (trip.sl.r_3 arg0 arg2 arg3 arg7 arg8 arg12 X0 X2 X3 X7 X8 k f12)
      (trip.sl.r_6 arg0 arg2 arg3 arg7 arg8 arg12 X0 X2 X3 X7 X8 k f12)
      (trip.sl.r_7 arg0 arg2 arg3 arg7 arg8 arg12 X0 X2 X3 X7 X8 k f12)
      (trip.sl.r_10 arg0 arg2 arg3 arg7 arg8 arg12 X0 X2 X3 X7 X8 k f12)
      (trip.sl.r_11 arg0 arg2 arg3 arg7 arg8 arg12 X0 X2 X3 X7 X8 k f12)
      (trip.sl.r_12 arg0 arg2 arg3 arg7 arg8 arg12 X0 X2 X3 X7 X8 k f12)
      (trip.sl.r_13 arg0 arg2 arg3 arg7 arg12 X0 X2 X3 X7 k f12)
      (trip.sl.r_14 arg0 arg2 arg7 arg8 X0 X2 X7 X8 k)
      (View.readAt (Elt F) arg12.view (Rect.unit (s := S8x64x16384) ![7, 0, 0] S1x64x16384.size inb_S8x64x16384_S1x64x16384_7_0_0).toLoadRect f12)
      f12 (arg13.view.writes (Elt F) arg13.view.junk (trip.sl.H13_8 arg0 arg2 arg3 arg7 arg8 arg12 X0 X2 X3 X7 X8 k f12))
      (k0_pay38, k0_pay39) k0_t3_loop.trips).2)) =
    Model.softAt
    (ins (F := F) arg0 arg2 arg3 arg4 arg5 arg6 arg7 arg8 arg9 arg10 X0 X2 X3 X4 X5 X6 X7 X8 X9 X10) k
      (arg12.view.read (Elt F) f12) k0_t3_loop.trips := by
  rw [read_t3 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            _ _ _ _ _ _ _ _ _ _ _ f12 _ _ le_rfl,
    read_logits arg0 arg2 arg3 arg4 arg5 arg6 arg7 arg8 arg9 arg10 arg12 arg13 X0 X2 X3 X4 X5 X6 X7 X8 X9 X10 f12 k]
  rfl

/-- The read-out before its bias, as the run finds it. -/
theorem read_att (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (f11 : BufTy.Contents (Elt F) arg11.view.ty) (f12 : BufTy.Contents (Elt F) arg12.view.ty)
    (f13 : BufTy.Contents (Elt F) arg13.view.ty) (f14 : BufTy.Contents (Elt F) arg14.view.ty)
    (k : Fin k0_t2_loop.trips) :
    trip.sl.r_15 (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X7 X8 k f12 =
    Model.att
    (ins (F := F) arg0 arg2 arg3 arg4 arg5 arg6 arg7 arg8 arg9 arg10 X0 X2 X3 X4 X5 X6 X7 X8 X9 X10) k
      (arg12.view.read (Elt F) f12) := by
  have h := read_soft 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 f11 f12 f13 f14 k
  unfold Model.att
  rw [← h]
  rfl

/-- The step's output. -/
theorem trip_out (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (f11 : BufTy.Contents (Elt F) arg11.view.ty) (f12 : BufTy.Contents (Elt F) arg12.view.ty)
    (f13 : BufTy.Contents (Elt F) arg13.view.ty) (f14 : BufTy.Contents (Elt F) arg14.view.ty)
    (k : Fin k0_t2_loop.trips) :
    arg11.view.read (Elt F) ((trip (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 k).1 f11 f12 f13 f14) =
    put (arg11.view.read (Elt F) f11) (k0_off4 k) S1x8x64.size (Model.outRow
    (ins (F := F) arg0 arg2 arg3 arg4 arg5 arg6 arg7 arg8 arg9 arg10 X0 X2 X3 X4 X5 X6 X7 X8 X9 X10) k
      (arg12.view.read (Elt F) f12)) := by
  unfold Model.outRow
  rw [← read_att 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 f11 f12 f13 f14 k]
  unfold trip
  exact View.read_writes_cons_put _ _ _ _ _ rfl

/-- The state and the mask the step leaves. -/
theorem trip_next (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (f11 : BufTy.Contents (Elt F) arg11.view.ty) (f12 : BufTy.Contents (Elt F) arg12.view.ty)
    (f13 : BufTy.Contents (Elt F) arg13.view.ty) (f14 : BufTy.Contents (Elt F) arg14.view.ty)
    (k : Fin k0_t2_loop.trips) :
    (arg12.view.read (Elt F) ((trip (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 k).2.1 f11 f12 f13 f14),
     arg14.view.read (Elt F) ((trip (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 k).2.2.2.1 f11 f12 f13 f14)) =
    Model.next
    (ins (F := F) arg0 arg2 arg3 arg4 arg5 arg6 arg7 arg8 arg9 arg10 X0 X2 X3 X4 X5 X6 X7 X8 X9 X10) k
      (arg12.view.read (Elt F) f12) (arg14.view.read (Elt F) f14) := by
  have h := read_soft 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 f11 f12 f13 f14 k
  unfold Model.next
  rw [← read_att 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 f11 f12 f13 f14 k, ← h,
    ← read_t4 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            _ f14 _ le_rfl,
    ← read_t5 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            _ _ _ _ _ _ f12 _ _ le_rfl]
  unfold trip
  simp only [View.writes_append]
  rfl

/-- The sixteen steps. -/
theorem read_st (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (X0 : BufTy.Contents (Elt F) arg0.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G11 : BufTy.Contents (Elt F) arg11.view.ty) (G12 : BufTy.Contents (Elt F) arg12.view.ty) (G13 : BufTy.Contents (Elt F) arg13.view.ty) (G14 : BufTy.Contents (Elt F) arg14.view.ty) :
    ∀ k : ℕ, k ≤ k0_t2_loop.trips →
    arg11.view.read (Elt F) (st (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 (G11, G12, G13, G14) k).1 = Model.outs
    (ins (F := F) arg0 arg2 arg3 arg4 arg5 arg6 arg7 arg8 arg9 arg10 X0 X2 X3 X4 X5 X6 X7 X8 X9 X10)
      (arg12.view.read (Elt F) G12) (arg14.view.read (Elt F) G14) (arg11.view.read (Elt F) G11) k ∧
    (arg12.view.read (Elt F) (st (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 (G11, G12, G13, G14) k).2.1,
     arg14.view.read (Elt F) (st (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      X0 X2 X3 X4 X5 X6 X7 X8 X9 X10 (G11, G12, G13, G14) k).2.2.2) = Model.states
    (ins (F := F) arg0 arg2 arg3 arg4 arg5 arg6 arg7 arg8 arg9 arg10 X0 X2 X3 X4 X5 X6 X7 X8 X9 X10)
      (arg12.view.read (Elt F) G12) (arg14.view.read (Elt F) G14) k
  | 0, _ => ⟨rfl, rfl⟩
  | k + 1, hk => by
    obtain ⟨h1, h2⟩ := read_st 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 G11 G12 G13 G14 k (by omega)
    have e := st_succ 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 (G11, G12, G13, G14) ⟨k, hk⟩
    simp only at e
    rw [e, Model.outs_succ _ _ _ _ _ hk, Model.states_succ _ _ _ _ hk, ← h1, ← h2]
    exact ⟨trip_out 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 _ _ _ _ _,
      trip_next 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
            X0 X2 X3 X4 X5 X6 X7 X8 X9 X10 _ _ _ _ _⟩

end Cert.KernelIdeal.Outer
-- ==== Proof.KernelIdealRun.lean ====
/- The kernel body run from start to end, the proof data of its pipeline and the run of the whole program. -/
module

public import proofs.«01_k».proof.Proof.KernelIdealStep
public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the run. -/
local notation "𝕄" => MT nD τ sig Unit (Elt F) ℕ (UR sig nD τ) ℕ

abbrev 𝒱₀ : Variants := Variants.none

/-- The inputs read off whole buffers holding them. -/
theorem ins_unread
    (arg0 : Memref sig .tc .vmem S16x8x64 .f32) (harg0 : arg0.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (x0 : Vec F S16x8x64 .f32) (x2 : Vec F S64x64 .f32) (x3 : Vec F S64x64 .f32) (x4 : Vec F S64x64 .f32)
    (x5 : Vec F S64x64 .f32) (x6 : Vec F S64x64 .f32) (x7 : Vec F S1x64 .f32) (x8 : Vec F S1x64 .f32)
    (x9 : Vec F S1x64 .f32) (x10 : Vec F S1x64 .f32) :
    (ins (F := F) arg0 arg2 arg3 arg4 arg5 arg6 arg7 arg8 arg9 arg10 (harg0.unread x0) (harg2.unread x2) (harg3.unread x3) (harg4.unread x4) (harg5.unread x5) (harg6.unread x6) (harg7.unread x7) (harg8.unread x8) (harg9.unread x9) (harg10.unread x10))
      = (⟨x0, x2, x3, x4, x5, x6, x7, x8, x9, x10⟩ : Model.Ins F) := by
  unfold ins
  congr 1 <;> first
    | exact Memref.IsWhole.read_unread _ _
    | (rw [View.readAt_full]; exact Memref.IsWhole.read_unread _ _)

/-- What the two loops leave in the output, read as a vector. -/
theorem read_run (𝒱 : Variants) (c : Dev nD) (bd : Option 𝒱.V)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (x0 : Vec F S16x8x64 .f32) (x1 : Vec F S64x16384 .f32) (x2 : Vec F S64x64 .f32) (x3 : Vec F S64x64 .f32)
    (x4 : Vec F S64x64 .f32) (x5 : Vec F S64x64 .f32) (x6 : Vec F S64x64 .f32) (x7 : Vec F S1x64 .f32)
    (x8 : Vec F S1x64 .f32) (x9 : Vec F S1x64 .f32) (x10 : Vec F S1x64 .f32)
    (G11 : BufTy.Contents (Elt F) arg11.view.ty) (G12 : BufTy.Contents (Elt F) arg12.view.ty) (G13 : BufTy.Contents (Elt F) arg13.view.ty) (G14 : BufTy.Contents (Elt F) arg14.view.ty) :
    arg11.view.read (Elt F) (st (F := F) 𝒱 c bd
      arg0 harg0 arg1 harg1 arg2 harg2 arg3 harg3 arg4 harg4 arg5 harg5 arg6 harg6 arg7 harg7 arg8 harg8 arg9
      harg9 arg10 harg10 arg11 harg11 arg12 harg12 arg13 harg13 arg14 harg14
      (harg0.unread x0) (harg2.unread x2) (harg3.unread x3) (harg4.unread x4) (harg5.unread x5) (harg6.unread x6) (harg7.unread x7) (harg8.unread x8) (harg9.unread x9) (harg10.unread x10)
      (G11, arg12.view.writes (Elt F) G12 (pb_k0_t1 (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 (harg1.unread x1) k0_t1_loop.trips).1, G13,
        arg14.view.writes (Elt F) G14 (pb_k0_t1 (F := F) 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 (harg1.unread x1) k0_t1_loop.trips).2) k0_t2_loop.trips).1
      = (Model.result x1 ⟨x0, x2, x3, x4, x5, x6, x7, x8, x9, x10⟩) := by
  rw [(read_st 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14
      _ _ _ _ _ _ _ _ _ _ _ _ _ _ _ le_rfl).1, ins_unread,
    (read_t1 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 _ G12 G14 _ le_rfl).1,
    (read_t1 𝒱 c bd
            arg0 harg0 arg1 harg1 arg2 harg2 arg3 harg3 arg4 harg4 arg5 harg5 arg6 harg6 arg7 harg7 arg8 harg8 arg9
            harg9 arg10 harg10 arg11 harg11 arg12 harg12 arg13 harg13 arg14 harg14 _ G12 G14 _ le_rfl).2, harg1.read_unread, Model.result_eq]

set_option maxHeartbeats 4000000 in
/-- The body on whole buffers: the eleven inputs as they were, the output at `Model.result`. -/
theorem kernelRun (c : Dev nD)
    (arg0 : Memref sig .tc .vmem S16x8x64 .f32) (harg0 : arg0.IsWhole)
    (arg1 : Memref sig .tc .vmem S64x16384 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S16x8x64 .f32) (harg11 : arg11.IsWhole)
    (arg12 : Memref sig .tc .vmem S8x64x16384 .f32) (harg12 : arg12.IsWhole)
    (arg13 : Memref sig .tc .vmem S8x16384 .f32) (harg13 : arg13.IsWhole)
    (arg14 : Memref sig .tc .vmem S8x16384 .f32) (harg14 : arg14.IsWhole)
    (x0 : Vec F S16x8x64 .f32) (x1 : Vec F S64x16384 .f32) (x2 : Vec F S64x64 .f32) (x3 : Vec F S64x64 .f32)
    (x4 : Vec F S64x64 .f32) (x5 : Vec F S64x64 .f32) (x6 : Vec F S64x64 .f32) (x7 : Vec F S1x64 .f32)
    (x8 : Vec F S1x64 .f32) (x9 : Vec F S1x64 .f32) (x10 : Vec F S1x64 .f32) (E : Set ℕ) (K : PUnit → sProp 𝕄) :
    iprop(owns (c : Thread nD τ) arg0 fullShare x0 ∗
      owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗
      (iprop(owns (c : Thread nD τ) arg0 fullShare x0 ∗
      owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
        owns (c : Thread nD τ) arg11 fullShare (Model.result x1 ⟨x0, x2, x3, x4, x5, x6, x7, x8, x9, x10⟩) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) 𝒱₀ (c : Thread nD τ) none) E (cc0__mem_layer_body (F := F)
      arg0 harg0 arg1 harg1 arg2 harg2 arg3 harg3 arg4 harg4 arg5 harg5 arg6 harg6 arg7 harg7 arg8 harg8 arg9
      harg9 arg10 harg10 arg11 harg11 arg12 harg12 arg13 harg13 arg14 harg14) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_unfold [cc0__mem_layer_body]
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    exact read_run 𝒱₀ c none
            arg0 harg0 arg1 harg1 arg2 harg2 arg3 harg3 arg4 harg4 arg5 harg5 arg6 harg6 arg7 harg7 arg8 harg8 arg9
            harg9 arg10 harg10 arg11 harg11 arg12 harg12 arg13 harg13 arg14 harg14
      x0 x1 x2 x3 x4 x5 x6 x7 x8 x9 x10 _ _ _ _
  isplitl [H12]
  · iexists _; iexists _; isplitr; swap; · iexact H12
    ipureintro; rfl
  isplitl [H13]
  · iexists _; iexists _; isplitr; swap; · iexact H13
    ipureintro; rfl
  iexists _; iexists _; isplitr; swap; · iexact H14
  ipureintro; rfl

variable (m : (ℓ : Loc nD τ sig) → Buf (Elt F) ℓ) (ρ : Dev nD → PrngReg)

/-- What the body leaves in the output's buffer: `Model.result` of the blocks. -/
def outAt (c : Dev nD) (t : Fin cfg0.N) : Vec F S16x8x64 .f32 :=
  Model.result (iblk m c 1 t) ⟨iblk m c 0 t, iblk m c 2 t, iblk m c 3 t, iblk m c 4 t, iblk m c 5 t, iblk m c 6 t, iblk m c 7 t, iblk m c 8 t, iblk m c 9 t, iblk m c 10 t⟩

/-- The proof data: the arrays as the region finds them; after the body every input's buffer at its block and the
    output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The scoped rest as owned memrefs. -/
theorem scoped_owns (c : Dev nD) :
    (Pipeline.scopedRest (Ix := Unit) (Name := ℕ) (U := UR sig nD τ) (Lvl := ℕ) (Val := Elt F) spec0 c : sProp 𝕄)
    = iprop((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) := by
  rw [scopedRest0_eq]; simp only [owns_whole]

set_option maxHeartbeats 2000000 in
/-- The body obligation of the pipeline. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold outAt Pipeline.ΦA
  rw [scoped_owns]
  iintro ⟨⟨⟨Hs0, Hs1, Hs2⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c
      _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [Hs0]; · iexact Hs0
  isplitl [Hs1]; · iexact Hs1
  isplitl [Hs2]; · iexact Hs2
  iintro ⟨H0, H1, H2, H3, H4, H5, H6, H7, H8, H9, H10, H11, Hs0, Hs1, Hs2⟩
  isplitl [Hs0 Hs1 Hs2 Hp]
  · isplitl [Hs0 Hs1 Hs2]
    · isplitl [Hs0]; · iexact Hs0
      isplitl [Hs1]; · iexact Hs1
      iexact Hs2
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
/-- From any memory with zero counters every run ends, each array at what the proof data compute. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m 𝒱₀) (hA := fun _ _ => rfl) (hΦ := fun _ _ => rfl)

/-- The arguments end as they began and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_with_sems (frame_of m ρ (dats m) fun _ _ => rfl) (run_main m ρ)

end Cert.KernelIdeal.Outer
-- ==== Proof.Frames.lean ====
/- The frame claims: every program runs to its end, its arguments unchanged and every semaphore counter at zero. -/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Proof

open Idealize.ShloMosaic Idealize.SL.Sem

theorem frame_kernel : quiescent_Kernel (hKernel := Cert.Kernel.Gen.facts) :=
  fun m g _ => Cert.Kernel.Outer.frame_run (F := Bits) m g

theorem frame_kernelIdeal : quiescent_KernelIdeal (hKernelIdeal := Cert.KernelIdeal.Gen.facts) :=
  fun m g _ => Cert.KernelIdeal.Outer.frame_run (F := Ideal) m g

theorem frame_kernelIdeal_finite : quiescent_KernelIdeal_pre_finite (hKernelIdeal := Cert.KernelIdeal.Gen.facts)
    (hPre_finite := Cert.Pre_finite.Gen.facts) :=
  fun m g _ => Cert.KernelIdeal.Outer.frame_run (F := Ideal) m g

/-- The reference keeps its arguments and, having no semaphore, ends with every counter at zero. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) =
          m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) =
          m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) =
          m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) =
          m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) =
          m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) =
          m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) =
          m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) =
          m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) =
          m ((c.tc : Thread Cert.ReferenceIdeal.nD Cert.ReferenceIdeal.τ).loc Cert.ReferenceIdeal.main_arg9))
      ∧ r.2.sem = fun _ => 0) :=
  (θ_run _ _ _).mono (fun _ h => ⟨fun c => (h c).2, sem_eq_zero_of_no_sems (by decide) _⟩)
    (Cert.ReferenceIdeal.Value.run (F := Ideal) m g)

theorem frame_reference : quiescent_ReferenceIdeal (hReferenceIdeal := Cert.ReferenceIdeal.Gen.facts) :=
  fun m g _ => reference_run m g

theorem frame_reference_finite : quiescent_ReferenceIdeal_pre_finite (hReferenceIdeal := Cert.ReferenceIdeal.Gen.facts)
    (hPre_finite := Cert.Pre_finite.Gen.facts) :=
  fun m g _ => reference_run m g

end Cert.Proof

end
-- ==== Proof.Selection.lean ====
/- The largest of finitely many reals, in order: each position's rank, greater first and equal values by position. -/
module

public import Idealize.ShloMosaic.Lib.SortFacts
public import Mathlib.Data.Real.Basic
public import Mathlib.Data.Fintype.Card
public import Mathlib.Order.Interval.Finset.Fin

@[expose] public section

noncomputable section

namespace Cert.Selection

open Idealize.ShloMosaic

variable {n : ℕ} (e : Fin n → ℝ)

/-- Position `k` comes before position `m`: its value is greater, or the same at a smaller position. -/
def Before (k m : Fin n) : Prop := e m < e k ∨ (e m = e k ∧ k < m)

open Classical in
/-- How many positions come before `m`. -/
def rank (m : Fin n) : ℕ := (Finset.univ.filter fun k => Before e k m).card

theorem before_irrefl (k : Fin n) : ¬ Before e k k := by
  rintro (h | ⟨_, h⟩)
  · exact lt_irrefl _ h
  · exact lt_irrefl _ h

theorem before_trans {a b c : Fin n} (h : Before e a b) (h' : Before e b c) : Before e a c := by
  rcases h with h | ⟨h, g⟩ <;> rcases h' with h' | ⟨h', g'⟩
  · exact .inl (h'.trans h)
  · exact .inl (h'.trans_lt h)
  · exact .inl (h'.trans_le h.le)
  · exact .inr ⟨h'.trans h, g.trans g'⟩

theorem before_total {a b : Fin n} (h : a ≠ b) : Before e a b ∨ Before e b a := by
  rcases lt_trichotomy (e a) (e b) with g | g | g
  · exact .inr (.inl g)
  · rcases lt_or_gt_of_ne h with q | q
    · exact .inl (.inr ⟨g.symm, q⟩)
    · exact .inr (.inr ⟨g, q⟩)
  · exact .inl (.inl g)

theorem not_before_trans {a b c : Fin n} (h : ¬ Before e a b) (h' : ¬ Before e b c) : ¬ Before e a c := by
  intro g
  by_cases hab : a = b
  · subst hab; exact h' g
  by_cases hbc : b = c
  · subst hbc; exact h g
  have h1 := (before_total e hab).resolve_left h
  have h2 := (before_total e hbc).resolve_left h'
  exact before_irrefl e a (before_trans e g (before_trans e h2 h1))

/-- The rank follows the order. -/
theorem rank_lt {k m : Fin n} (h : Before e k m) : rank e k < rank e m := by
  classical
  unfold rank
  refine Finset.card_lt_card (Finset.ssubset_iff_of_subset ?_ |>.2 ⟨k, ?_, ?_⟩)
  · intro j hj
    simp only [Finset.mem_filter, Finset.mem_univ, true_and] at hj ⊢
    exact before_trans e hj h
  · simpa using h
  · simpa using before_irrefl e k

theorem rank_inj {k m : Fin n} (h : rank e k = rank e m) : k = m := by
  by_contra hne
  rcases before_total e hne with g | g
  · have := rank_lt e g; omega
  · have := rank_lt e g; omega

theorem rank_lt_iff {k m : Fin n} : rank e k < rank e m ↔ Before e k m := by
  refine ⟨fun h => ?_, rank_lt e⟩
  by_contra g
  by_cases hkm : k = m
  · subst hkm; exact lt_irrefl _ h
  · have := rank_lt e ((before_total e hkm).resolve_left g); omega

open Classical in
/-- The order as a Boolean relation. -/
def before (k m : Fin n) : Bool := decide (Before e k m)

/-- Over positions taken in ascending order, comparing the values alone sorts as comparing value and position. -/
theorem stableSort_values (l : List (Fin n)) (hl : l.Pairwise (· < ·)) :
    stableSort (fun k m => decide (e m < e k)) l = stableSort (before e) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    unfold before Before
    refine decide_eq_decide.2 ⟨.inl, ?_⟩
    rintro (h | ⟨_, h⟩)
    · exact h
    · exact absurd h (lt_asymm hab)

theorem sortedFrom_values : sortedFrom (fun k m => decide (e m < e k)) = sortedFrom (before e) := by
  have h := stableSort_values e (List.finRange n) (List.pairwise_lt_finRange n)
  funext k
  unfold sortedFrom
  rw [List.get_of_eq (show sortPositions n (fun k m => decide (e m < e k)) = sortPositions n (before e) from h)]
  rfl

/-- Place `r` of the stable sort holds the position of rank `r`. -/
theorem rank_sortedFrom (r : Fin n) : rank e (sortedFrom (fun k m => decide (e m < e k)) r) = r.val := by
  classical
  rw [sortedFrom_values]
  set s := sortedFrom (before e) with hs
  have inj : Function.Injective s := sortedFrom_injective (before e)
  have sur : Function.Surjective s := sortedFrom_surjective (before e)
  have noInv : ∀ i j : Fin n, i < j → ¬ Before e (s j) (s i) := fun i j hij => by
    have := sortedFrom_noInversion (before e) (before e)
      (fun a b h => by
        simp only [before, decide_eq_true_eq, decide_eq_false_iff_not] at h ⊢
        exact fun g => before_irrefl e a (before_trans e h g))
      (fun a b h => h)
      (fun a b c h h' => by
        simp only [before, decide_eq_false_iff_not] at h h' ⊢
        exact not_before_trans e h h') i j hij
    simpa [before] using this
  have key : (Finset.univ.filter fun k => Before e k (s r)) = (Finset.Iio r).image s := by
    ext k
    obtain ⟨j, rfl⟩ := sur k
    simp only [Finset.mem_filter, Finset.mem_univ, true_and, Finset.mem_image, Finset.mem_Iio]
    constructor
    · intro h
      refine ⟨j, ?_, rfl⟩
      by_contra g
      rcases (not_lt.1 g).lt_or_eq with q | q
      · exact noInv r j q h
      · subst q; exact before_irrefl e _ h
    · rintro ⟨i, hi, hij⟩
      rw [inj hij] at hi
      exact (before_total e (fun q => hi.ne (inj q))).resolve_right (noInv j r hi)
  unfold rank
  rw [key, Finset.card_image_of_injective _ inj, Fin.card_Iio]

/-- Some position has rank `r`. -/
theorem exists_rank {r : ℕ} (hr : r < n) : ∃ m, rank e m = r := ⟨_, rank_sortedFrom e ⟨r, hr⟩⟩

/-- The first `K` places of the stable sort hold exactly the positions of rank below `K`. -/
theorem exists_sortedFrom_iff {K : ℕ} (hK : K ≤ n) (m : Fin n) :
    (∃ r : Fin K, sortedFrom (fun k m => decide (e m < e k)) (r.castLE hK) = m) ↔ rank e m < K := by
  constructor
  · rintro ⟨r, rfl⟩
    rw [rank_sortedFrom]
    exact r.isLt
  · intro h
    refine ⟨⟨rank e m, h⟩, rank_inj e ?_⟩
    rw [rank_sortedFrom]
    rfl

/-- Dividing every value by one positive number leaves the ranks. -/
theorem rank_div {s : ℝ} (hs : 0 < s) (m : Fin n) : rank (fun k => e k / s) m = rank e m := by
  classical
  unfold rank
  congr 1
  refine Finset.filter_congr fun k _ => ?_
  unfold Before
  rw [div_lt_div_iff_of_pos_right hs, div_left_inj' hs.ne']

/-! ## One round of taking the largest -/

/-- Among the positions of rank `r` and more, the one of rank `r` has the greatest value. -/
theorem le_of_rank {r : ℕ} {p m : Fin n} (hp : rank e p = r) (hm : r ≤ rank e m) : e m ≤ e p := by
  by_contra h
  have := rank_lt e (k := m) (m := p) (.inl (not_le.1 h))
  omega

/-- And it is the first of those with that value. -/
theorem first_of_rank {r : ℕ} {p m : Fin n} (hp : rank e p = r) (hm : r ≤ rank e m) (h : e m = e p) : p ≤ m := by
  by_contra g
  have := rank_lt e (k := m) (m := p) (.inr ⟨h.symm, not_le.1 g⟩)
  omega

end Cert.Selection
-- ==== Proof.Reals.lean ====
/- Extended reals that are reals: sums, maxima, quotients and the constants of the programs. -/
module

public import Idealize.ShloMosaic.Lib.Pointwise
public import Idealize.ShloMosaic.Lib.IdealHost
public import Mathlib.Data.EReal.Operations

@[expose] public section

noncomputable section

namespace Cert.Reals

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals. -/
def top {n : ℕ} [NeZero n] (f : Fin n → ℝ) : ℝ := Finset.univ.sup' Finset.univ_nonempty f

theorem fold_max {n : ℕ} [NeZero n] (f : Fin n → ℝ) :
    Finset.univ.fold max (⊥ : EReal) (fun i => ((f i : ℝ) : EReal)) = ((top f : ℝ) : EReal) := by
  unfold top
  rw [Finset.comp_sup'_eq_sup'_comp (g := ((↑) : ℝ → EReal)) Finset.univ_nonempty (fun a b => EReal.coe_strictMono.monotone.map_max),
    Finset.sup'_eq_sup]
  rfl

theorem le_top {n : ℕ} [NeZero n] (f : Fin n → ℝ) (i : Fin n) : f i ≤ top f := Finset.le_sup' f (Finset.mem_univ i)

theorem top_eq {n : ℕ} [NeZero n] (f : Fin n → ℝ) (p : Fin n) (h : ∀ i, f i ≤ f p) : top f = f p :=
  le_antisymm (Finset.sup'_le _ _ fun i _ => h i) (le_top f p)

theorem div_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- The gate is a real whatever it is taken of. -/
theorem logistic_real (z : EReal) : ((EReal.toReal (Ideal.logistic z) : ℝ) : EReal) = Ideal.logistic z := by
  induction z with
  | bot => rw [Ideal.logistic_bot]; rfl
  | coe r => rw [Ideal.logistic_coe, EReal.toReal_coe]
  | top => rw [Ideal.logistic_top]; rfl

/-- Positive weights that add up to one carry a common bias out of the sum, an infinite one too. -/
theorem sum_mul_add {n : ℕ} [NeZero n] (w : Fin n → ℝ) (hw : ∀ m, 0 < w m) (h1 : ∑ m, w m = 1) (v : Fin n → ℝ) (r : EReal) :
    ∑ m, ((w m : ℝ) : EReal) * (((v m : ℝ) : EReal) + r) = ((∑ m, w m * v m : ℝ) : EReal) + r := by
  have hz : (Finset.univ : Finset (Fin n)).card ≠ 0 := by
    rw [Finset.card_univ, Fintype.card_fin]
    exact NeZero.ne n
  induction r with
  | bot =>
    have e : ∀ m, ((w m : ℝ) : EReal) * (((v m : ℝ) : EReal) + ⊥) = ⊥ := fun m => by
      rw [EReal.add_bot, EReal.coe_mul_bot_of_pos (hw m)]
    simp only [e]
    rw [EReal.add_bot]
    rw [← Finset.add_sum_erase _ _ (Finset.mem_univ (0 : Fin n)), EReal.bot_add]
  | coe r =>
    simp only [← EReal.coe_add, ← EReal.coe_mul, coe_sum]
    refine congrArg _ ?_
    simp only [mul_add, Finset.sum_add_distrib, ← Finset.sum_mul, h1, one_mul]
  | top =>
    have e : ∀ m, ((w m : ℝ) : EReal) * (((v m : ℝ) : EReal) + ⊤) = ⊤ := fun m => by
      rw [EReal.coe_add_top, EReal.coe_mul_top_of_pos (hw m)]
    simp only [e]
    rw [EReal.coe_add_top, Finset.sum_const, EReal.nsmul_eq_mul]
    exact EReal.coe_mul_top_of_pos (by exact_mod_cast Nat.pos_of_ne_zero hz)

theorem ofBits_eight : Ideal.ofBits .f32 0x41000000#32 = ((8 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem ofBits_posInf : Ideal.ofBits .f32 0x7F800000#32 = (⊤ : EReal) := by
  simp [Ideal.ofBits, Ideal.ieee]

/-- The kernel's low constant is a negative real. -/
theorem ofBits_low : ∃ r : ℝ, r < 0 ∧ Ideal.ofBits .f32 0xF149F2CA#32 = (r : EReal) := by
  refine ⟨_, ?_, by simp [Ideal.ofBits, Ideal.ieee, -EReal.coe_mul]; rfl⟩
  norm_num

end Cert.Reals
-- ==== Proof.Spec.lean ====
/- The layer over the reals: one step on one batch row's memory, and the sixteen steps. The read-out alone may be infinite. -/
module

public import proofs.«01_k».proof.Proof.Selection
public import proofs.«01_k».proof.Proof.Reals
public import Mathlib.Analysis.SpecialFunctions.Exp

@[expose] public section

noncomputable section

namespace Cert.Spec

open Idealize.ShloMosaic Cert.Selection Cert.Reals

/-- The weights of the layer, each matrix as `output coordinate → input coordinate`. The values' bias and the gate's
    weights only ever meet whole sums, so they may be infinite. -/
structure Par where
  wq : Fin 64 → Fin 64 → ℝ
  bq : Fin 64 → ℝ
  wk : Fin 64 → Fin 64 → ℝ
  bk : Fin 64 → ℝ
  wv : Fin 64 → Fin 64 → ℝ
  bv : Fin 64 → EReal
  u1 : Fin 64 → Fin 64 → EReal
  u2 : Fin 64 → Fin 64 → EReal
  bu : Fin 64 → EReal

variable (P : Par)

/-- One batch row's memory: a vector for each of the slots. -/
abbrev Mem := Fin 16384 → Fin 64 → ℝ

/-- The query of an input row. -/
def query (x : Fin 64 → ℝ) (d : Fin 64) : ℝ := ∑ i, x i * P.wq d i + P.bq d

/-- The query carried over to the memory's coordinates. -/
def carried (x : Fin 64 → ℝ) (j : Fin 64) : ℝ := ∑ d, query P x d * P.wk d j

/-- The query against the key bias. -/
def offset (x : Fin 64 → ℝ) : ℝ := ∑ d, query P x d * P.bk d

/-- The score of each slot. -/
def logit (x : Fin 64 → ℝ) (c : Mem) (m : Fin 16384) : ℝ := (∑ j, carried P x j * c m j + offset P x) / 8

/-- The weight of each slot, before the weights are divided by their sum. -/
def weight (x : Fin 64 → ℝ) (c : Mem) (m : Fin 16384) : ℝ := Real.exp (logit P x c m - top (logit P x c))

/-- The weighted mean of the slots. -/
def mean (x : Fin 64 → ℝ) (c : Mem) (j : Fin 64) : ℝ := (∑ m, c m j * weight P x c m) / ∑ m, weight P x c m

/-- The read-out: the step's output. -/
def readout (x : Fin 64 → ℝ) (c : Mem) (d : Fin 64) : EReal := ((∑ j, mean P x c j * P.wv d j : ℝ) : EReal) + P.bv d

/-- What the gate is taken of. -/
def gateArg (x : Fin 64 → ℝ) (c : Mem) (d : Fin 64) : EReal :=
  ∑ j, ((x j : ℝ) : EReal) * P.u1 d j + ∑ j, readout P x c j * P.u2 d j + P.bu d

/-- How far each coordinate moves: between not at all and all the way, whatever the gate is taken of. -/
def gate (x : Fin 64 → ℝ) (c : Mem) (d : Fin 64) : ℝ := EReal.toReal (Ideal.logistic (gateArg P x c d))

theorem gate_coe (x : Fin 64 → ℝ) (c : Mem) (d : Fin 64) : ((gate P x c d : ℝ) : EReal) = Ideal.logistic (gateArg P x c d) :=
  logistic_real _

/-- The memory after the step: the eight slots of largest weight move towards the input. -/
def step (x : Fin 64 → ℝ) (c : Mem) : Mem := fun m j =>
  if rank (weight P x c) m < 8 then c m j + gate P x c j * (x j - c m j) else c m j

/-- The memory before step `t` of one batch row. -/
def mem (x : Fin 16 → Fin 64 → ℝ) (c₀ : Mem) : ℕ → Mem
  | 0 => c₀
  | t + 1 => if h : t < 16 then step P (x ⟨t, h⟩) (mem x c₀ t) else mem x c₀ t

theorem mem_succ (x : Fin 16 → Fin 64 → ℝ) (c₀ : Mem) (t : ℕ) (h : t < 16) :
    mem P x c₀ (t + 1) = step P (x ⟨t, h⟩) (mem P x c₀ t) := by
  rw [mem]
  exact dif_pos h

/-- What the layer returns for one batch row. -/
def output (x : Fin 16 → Fin 64 → ℝ) (c₀ : Mem) (t : Fin 16) (d : Fin 64) : EReal := readout P (x t) (mem P x c₀ t.val) d

theorem weight_pos (x : Fin 64 → ℝ) (c : Mem) (m : Fin 16384) : 0 < weight P x c m := Real.exp_pos _

theorem sum_weight_pos (x : Fin 64 → ℝ) (c : Mem) : 0 < ∑ m, weight P x c m :=
  Finset.sum_pos (fun m _ => weight_pos P x c m) Finset.univ_nonempty

/-! ## The same step in the usual order of operations -/

/-- A slot's key against the query. -/
theorem logit_keys (x : Fin 64 → ℝ) (c : Mem) (m : Fin 16384) :
    logit P x c m = (∑ d, query P x d * (∑ j, c m j * P.wk d j + P.bk d)) / 8 := by
  unfold logit carried offset
  congr 1
  simp only [mul_add, Finset.sum_add_distrib, Finset.mul_sum, Finset.sum_mul]
  rw [Finset.sum_comm]
  congr 1
  refine Finset.sum_congr rfl fun d _ => Finset.sum_congr rfl fun j _ => ?_
  ring

theorem mean_values {ι : Type} [Fintype ι] (w : ι → ℝ) (c : ι → Fin 64 → ℝ) (v : Fin 64 → ℝ) :
    ∑ j, (∑ m, c m j * w m) / (∑ m, w m) * v j = ∑ m, w m / (∑ k, w k) * ∑ j, c m j * v j := by
  simp only [Finset.mul_sum, Finset.sum_mul, Finset.sum_div]
  rw [Finset.sum_comm]
  refine Finset.sum_congr rfl fun m _ => Finset.sum_congr rfl fun j _ => ?_
  ring

/-- The mean of the slots' values is the value of their mean: the weights, divided by their sum, add up to one. -/
theorem readout_values (x : Fin 64 → ℝ) (c : Mem) (d : Fin 64) :
    readout P x c d = ∑ m, ((weight P x c m / (∑ k, weight P x c k) : ℝ) : EReal) * (((∑ j, c m j * P.wv d j : ℝ) : EReal) + P.bv d) := by
  rw [sum_mul_add (fun m => weight P x c m / ∑ k, weight P x c k) (fun m => div_pos (weight_pos P x c m) (sum_weight_pos P x c))
    (by rw [← Finset.sum_div, div_self (sum_weight_pos P x c).ne'])]
  exact congrArg (fun z : ℝ => ((z : ℝ) : EReal) + P.bv d) (mean_values _ c (P.wv d))

/-- The move written as a weighted mean of the old slot and the input. -/
theorem step_blend (x : Fin 64 → ℝ) (c : Mem) (m : Fin 16384) (j : Fin 64) :
    step P x c m j = if rank (weight P x c) m < 8 then (1 - gate P x c j) * c m j + gate P x c j * x j else c m j := by
  unfold step
  refine ite_congr rfl (fun _ => ?_) fun _ => rfl
  ring

end Cert.Spec
-- ==== Proof.Args.lean ====
/- The ten arguments, when every element of those that must be finite is a real. -/
module

public import proofs.«01_k».proof.Defs
public import proofs.«01_k».proof.Proof.Spec
public import Idealize.ShloMosaic.Lib.Pointwise

@[expose] public section

noncomputable section

namespace Cert.Spec

open Idealize.ShloMosaic

/-- The arguments read: the inputs `X` of every batch row, the memory `C` all rows start from, the parameters
    `P` (the gate's matrix in its two halves: the input's columns, then the read-out's). -/
structure Args (a0 : Vec Ideal ⟨3, ![8, 16, 64]⟩ .f32) (a1 : Vec Ideal ⟨2, ![16384, 64]⟩ .f32) (a2 : Vec Ideal ⟨2, ![64, 64]⟩ .f32) (a3 : Vec Ideal ⟨1, ![64]⟩ .f32)
    (a4 : Vec Ideal ⟨2, ![64, 64]⟩ .f32) (a5 : Vec Ideal ⟨1, ![64]⟩ .f32) (a6 : Vec Ideal ⟨2, ![64, 64]⟩ .f32) (a7 : Vec Ideal ⟨1, ![64]⟩ .f32)
    (a8 : Vec Ideal ⟨2, ![64, 128]⟩ .f32) (a9 : Vec Ideal ⟨1, ![64]⟩ .f32) (X : Fin 8 → Fin 16 → Fin 64 → ℝ) (C : Mem) (P : Par) : Prop where
  x : ∀ b t j, a0 (ix3 b t j) = ((X b t j : ℝ) : EReal)
  c : ∀ s j, a1 (ix2 s j) = ((C s j : ℝ) : EReal)
  wq : ∀ d j, a2 (ix2 d j) = ((P.wq d j : ℝ) : EReal)
  bq : ∀ d, a3 (ix1 d) = ((P.bq d : ℝ) : EReal)
  wk : ∀ d j, a4 (ix2 d j) = ((P.wk d j : ℝ) : EReal)
  bk : ∀ d, a5 (ix1 d) = ((P.bk d : ℝ) : EReal)
  wv : ∀ d j, a6 (ix2 d j) = ((P.wv d j : ℝ) : EReal)
  bv : ∀ d, a7 (ix1 d) = P.bv d
  u1 : ∀ d (j : Fin 64), a8 (ix2 d ⟨j.val, by omega⟩) = P.u1 d j
  u2 : ∀ d (j : Fin 64), a8 (ix2 d ⟨64 + j.val, by omega⟩) = P.u2 d j
  bu : ∀ d, a9 (ix1 d) = P.bu d

/-- Arrays can be so read, if those that must be finite hold reals. -/
theorem Args.of_real (a0 : Vec Ideal ⟨3, ![8, 16, 64]⟩ .f32) (a1 : Vec Ideal ⟨2, ![16384, 64]⟩ .f32) (a2 : Vec Ideal ⟨2, ![64, 64]⟩ .f32) (a3 : Vec Ideal ⟨1, ![64]⟩ .f32)
    (a4 : Vec Ideal ⟨2, ![64, 64]⟩ .f32) (a5 : Vec Ideal ⟨1, ![64]⟩ .f32) (a6 : Vec Ideal ⟨2, ![64, 64]⟩ .f32) (a7 : Vec Ideal ⟨1, ![64]⟩ .f32)
    (a8 : Vec Ideal ⟨2, ![64, 128]⟩ .f32) (a9 : Vec Ideal ⟨1, ![64]⟩ .f32)
    (h0 : ∀ i, ((EReal.toReal (a0 i) : ℝ) : EReal) = a0 i) (h1 : ∀ i, ((EReal.toReal (a1 i) : ℝ) : EReal) = a1 i)
    (h2 : ∀ i, ((EReal.toReal (a2 i) : ℝ) : EReal) = a2 i) (h3 : ∀ i, ((EReal.toReal (a3 i) : ℝ) : EReal) = a3 i)
    (h4 : ∀ i, ((EReal.toReal (a4 i) : ℝ) : EReal) = a4 i) (h5 : ∀ i, ((EReal.toReal (a5 i) : ℝ) : EReal) = a5 i)
    (h6 : ∀ i, ((EReal.toReal (a6 i) : ℝ) : EReal) = a6 i) :
    ∃ X C P, Args a0 a1 a2 a3 a4 a5 a6 a7 a8 a9 X C P :=
  ⟨fun b t j => EReal.toReal (a0 (ix3 b t j)), fun s j => EReal.toReal (a1 (ix2 s j)),
    { wq := fun d j => EReal.toReal (a2 (ix2 d j)), bq := fun d => EReal.toReal (a3 (ix1 d))
      wk := fun d j => EReal.toReal (a4 (ix2 d j)), bk := fun d => EReal.toReal (a5 (ix1 d))
      wv := fun d j => EReal.toReal (a6 (ix2 d j)), bv := fun d => a7 (ix1 d)
      u1 := fun d j => a8 (ix2 d ⟨j.val, by omega⟩), u2 := fun d j => a8 (ix2 d ⟨64 + j.val, by omega⟩)
      bu := fun d => a9 (ix1 d) },
    { x := fun _ _ _ => (h0 _).symm, c := fun _ _ => (h1 _).symm, wq := fun _ _ => (h2 _).symm, bq := fun _ => (h3 _).symm
      wk := fun _ _ => (h4 _).symm, bk := fun _ => (h5 _).symm, wv := fun _ _ => (h6 _).symm, bv := fun _ => rfl
      u1 := fun _ _ => rfl, u2 := fun _ _ => rfl, bu := fun _ => rfl }⟩

/-- The result the layer should return. -/
def value (X : Fin 8 → Fin 16 → Fin 64 → ℝ) (C : Mem) (P : Par) : Vec Ideal ⟨3, ![8, 16, 64]⟩ .f32 :=
  fun i => output P (X (i 0)) C (i 1) (i 2)

/-- A vector holding the layer's outputs at every index is that result. -/
theorem eq_value {X : Fin 8 → Fin 16 → Fin 64 → ℝ} {C : Mem} {P : Par} {v : Vec Ideal ⟨3, ![8, 16, 64]⟩ .f32}
    (h : ∀ b t d, v (ix3 b t d) = output P (X b) C t d) : v = value X C P := by
  funext i
  have e : i = ix3 (i 0) (i 1) (i 2) := by funext a; fin_cases a <;> rfl
  rw [e]
  exact h _ _ _

end Cert.Spec
-- ==== Proof.Finite.lean ====
/- The precondition read: every element of the seven arguments it names is a real number. -/
module

public import proofs.«01_k».proof.Defs
public import proofs.«01_k».proof.Proof.Args
public import proofs.«01_k».proof.Proof.Reals
public import proofs.«01_k».proof.Proof.Gen.Pre_finite
public import proofs.«01_k».proof.Proof.Gen.KernelIdeal

@[expose] public section

noncomputable section

namespace Cert.Proof

open Idealize.ShloMosaic Cert.Reals

/-- A value whose absolute value is below infinity is a real number. -/
theorem real_of_abs {x : EReal} (h : Ideal.cmp .olt (max x (-x)) (Ideal.ofBits .f32 0x7F800000#32) = 1#1) : ((EReal.toReal x : ℝ) : EReal) = x := by
  rw [ofBits_posInf] at h
  have hlt : max x (-x) < ⊤ := by
    by_contra q
    have e : Ideal.cmp .olt (max x (-x)) ⊤ = BitVec.ofBool (decide (max x (-x) < ⊤)) := rfl
    rw [e, decide_eq_false q] at h
    exact absurd h (by decide)
  refine EReal.coe_toReal (fun e => ?_) fun e => ?_
  · rw [e] at hlt
    exact absurd ((le_max_left _ _).trans_lt hlt) (lt_irrefl _)
  · rw [e] at hlt
    exact absurd ((le_max_right _ _).trans_lt hlt) (by rw [EReal.neg_bot]; exact lt_irrefl _)

/-- The same of an array, compared element by element. -/
theorem real_of_finite {s : Shape} (a : FVec Ideal s .f32) (hb : (⟨0, ![]⟩ : Shape).BroadcastsInDim s (![] : Fin 0 → Fin s.rank))
    (h : cmpf .olt (Host.absf a) (broadcastInDim s ![] hb (constant (F := Ideal) ⟨0, ![]⟩ .f32 0x7F800000#32)) = fun _ => 1#1) (i : s.Idx) :
    ((EReal.toReal (a i) : ℝ) : EReal) = a i :=
  real_of_abs (congrFun h i)

/-- Under the precondition every device's arguments can be read. -/
theorem args_of_finite (m : (ℓ : Loc Cert.KernelIdeal.nD Cert.KernelIdeal.τ Cert.KernelIdeal.sig) → Buf (Elt Ideal) ℓ)
    (h : Pre_KernelIdeal_finite (hPre_finite := Cert.Pre_finite.Gen.facts) m) (c : Dev Cert.KernelIdeal.nD) :
    ∃ X C P, Cert.Spec.Args (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) X C P := by
  obtain ⟨h0, h1, h2, h3, h4, h5, h6⟩ := h c
  exact Cert.Spec.Args.of_real _ _ _ _ _ _ _ _ _ _
    (real_of_finite _ _ h0)
    (real_of_finite _ _ h1)
    (real_of_finite _ _ h2)
    (real_of_finite _ _ h3)
    (real_of_finite _ _ h4)
    (real_of_finite _ _ h5)
    (real_of_finite _ _ h6)

end Cert.Proof
-- ==== Proof.KPay.lean ====
/- The kernel's vectors read at an index, when the operands hold the layer's. -/
module

public import proofs.«01_k».proof.Proof.Spec
public import proofs.«01_k».proof.Proof.KernelIdealModel

@[expose] public section

set_option maxRecDepth 16384

noncomputable section

namespace Cert.KernelIdeal.Read

open Cert.KernelIdeal Cert.KernelIdeal.Gen
open Idealize.ShloMosaic Idealize.ShloMosaic.TcCoe
open Cert.Reals Cert.Spec

variable (xt : Vec Ideal S1x8x64 .f32) (wq wk wv u1 u2 : Vec Ideal S64x64 .f32) (bq bk bv bu : Vec Ideal S1x64 .f32)
  (X : Fin 8 → Fin 64 → ℝ) (P : Par)

section Query

variable (hx : ∀ b j, xt (ix3 0 b j) = ((X b j : ℝ) : EReal))
  (hq : ∀ i d, wq (ix2 i d) = ((P.wq d i : ℝ) : EReal)) (hb : ∀ d, bq (ix2 0 d) = ((P.bq d : ℝ) : EReal))

include hx in
theorem pay9_at (b : Fin 8) (j : Fin 64) : k0_pay9 xt (ix2 b j) = ((X b j : ℝ) : EReal) := by
  pointwise [k0_pay9]
  exact hx b j

include hx hq hb in
theorem pay10_at (b : Fin 8) (d : Fin 64) : k0_pay10 xt wq bq (ix2 b d) = ((query P (X b) d : ℝ) : EReal) := by
  pointwise [k0_pay10, k0_pay9]
  simp only [hx, hq, hb, ← EReal.coe_mul, coe_sum, ← EReal.coe_add, query]

include hx hq hb in
theorem pay11_at (hk : ∀ d j, wk (ix2 d j) = ((P.wk d j : ℝ) : EReal)) (b : Fin 8) (j : Fin 64) :
    k0_pay11 xt wq bq wk (ix2 b j) = ((carried P (X b) j : ℝ) : EReal) := by
  pointwise [k0_pay11]
  simp only [pay10_at xt wq bq X P hx hq hb, hk, ← EReal.coe_mul, coe_sum, ← EReal.coe_add, carried]

include hx hq hb in
theorem pay12_at (hk : ∀ d, bk (ix2 0 d) = ((P.bk d : ℝ) : EReal)) (b : Fin 8) (j : Fin 1) :
    k0_pay12 xt wq bq bk (ix2 b j) = ((offset P (X b) : ℝ) : EReal) := by
  pointwise [k0_pay12]
  simp only [pay10_at xt wq bq X P hx hq hb, hk, ← EReal.coe_mul, coe_sum, ← EReal.coe_add, offset]

end Query

section Rows

variable (qk : FVec Ideal S8x64 .f32) (qbk : FVec Ideal S8x1 .f32) (r : Vec Ideal S1x64x16384 .f32)
  (hqk : ∀ b j, qk (ix2 b j) = ((carried P (X b) j : ℝ) : EReal)) (hqbk : ∀ b j, qbk (ix2 b j) = ((offset P (X b) : ℝ) : EReal))
  (C : Mem) (hr : ∀ j m, r (ix3 0 j m) = ((C m j : ℝ) : EReal))

include hqk hqbk hr in
theorem pay20_at (m : Fin 16384) : k0_pay20 qk qbk r (ix2 0 m) = ((logit P (X 2) C m : ℝ) : EReal) := by
  pointwise [k0_pay20]
  simp only [hqk, hqbk, hr, ofBits_eight, ← EReal.coe_mul, coe_sum, ← EReal.coe_add, div_coe _ (by norm_num : (8 : ℝ) ≠ 0), logit]

include hqk hqbk hr in
theorem pay22_at : k0_pay22 qk qbk r (ix2 0 0) = ((top (logit P (X 2) C) : ℝ) : EReal) := by
  pointwise [k0_pay22]
  simp only [pay20_at X P qk qbk r hqk hqbk C hr, ofBits_negInf, fold_max]

end Rows

section Soft

variable (s : FVec Ideal S8x1 .f32) (t : FVec Ideal S8x64 .f32)

theorem pay44_at (W : Fin 8 → ℝ) (hW : ∀ b, W b ≠ 0) (S : Fin 8 → Fin 64 → ℝ) (hs : ∀ b, s (ix2 b 0) = ((W b : ℝ) : EReal))
    (ht : ∀ b j, t (ix2 b j) = ((S b j : ℝ) : EReal)) (hv : ∀ j d, wv (ix2 j d) = ((P.wv d j : ℝ) : EReal)) (b : Fin 8) (d : Fin 64) :
    k0_pay44 s t wv (ix2 b d) = ((∑ j, S b j / W b * P.wv d j : ℝ) : EReal) := by
  pointwise [k0_pay44]
  simp only [hs, ht, hv, div_coe _ (hW b), ← EReal.coe_mul, coe_sum]

theorem pay45_at (hb : ∀ d, bv (ix2 0 d) = P.bv d) (b : Fin 8) (d : Fin 64) :
    k0_pay45 bv (ix2 b d) = P.bv d := by
  pointwise [k0_pay45]
  exact hb d

end Soft

section Update

variable (v4 v141 v144 : FVec Ideal S8x64 .f32) (hx : ∀ b j, v4 (ix2 b j) = ((X b j : ℝ) : EReal))
  (R : Fin 8 → Fin 64 → ℝ) (B : Fin 64 → EReal) (ha : ∀ b j, v141 (ix2 b j) = ((R b j : ℝ) : EReal)) (hb : ∀ b j, v144 (ix2 b j) = B j)
  (h1 : ∀ j d, u1 (ix2 j d) = P.u1 d j) (h2 : ∀ j d, u2 (ix2 j d) = P.u2 d j)
  (hu : ∀ d, bu (ix2 0 d) = P.bu d)
  (c : Vec Ideal S8x64x2048 .f32) (mk : Vec Ideal S8x2048 .f32) (C : Fin 8 → Fin 64 → Fin 2048 → ℝ) (M : Fin 8 → Fin 2048 → ℝ)
  (hc : ∀ b j m, c (ix3 b j m) = ((C b j m : ℝ) : EReal)) (hm : ∀ b m, mk (ix2 b m) = ((M b m : ℝ) : EReal))

include ha hb in
theorem pay4_at (b : Fin 8) (d : Fin 64) : k0_pay4 v141 v144 (ix3 0 b d) = ((R b d : ℝ) : EReal) + B d := by
  pointwise [k0_pay4, k0_pay3]
  rw [ha, hb]

include hx ha hb h1 h2 hu hc hm in
theorem pay6_at (b : Fin 8) (j : Fin 64) (m : Fin 2048) (G : ℝ)
    (hG : ((G : ℝ) : EReal) = Ideal.logistic (∑ i, ((X b i : ℝ) : EReal) * P.u1 j i + ∑ i, (((R b i : ℝ) : EReal) + B i) * P.u2 j i + P.bu j)) : k0_pay6 v4 v141 v144 u1 u2 bu c mk (ix3 b j m)
    = ((C b j m + G * M b m * (X b j - C b j m) : ℝ) : EReal) := by
  pointwise [k0_pay6, k0_pay3]
  simp only [hx, ha, hb, h1, h2, hu, hc, hm]
  rw [← hG]
  simp only [← EReal.coe_mul, ← EReal.coe_add, ← EReal.coe_sub]

end Update

end Cert.KernelIdeal.Read
-- ==== Proof.Windows.lean ====
/- Windows of matrices and blocks read, and put, at an index; sums taken in chunks. -/
module

public import Idealize.ShloMosaic.Lib.Pointwise
public import Idealize.ShloMosaic.Lib.VecWindow
public import Mathlib.Algebra.BigOperators.Fin
public import Mathlib.Data.Real.Basic

@[expose] public section

noncomputable section

namespace Cert.Windows

open Idealize.ShloMosaic
open Idealize.ShloMosaic.VecWindow (window put)

variable {α : Type}

theorem window2 {n0 n1 s0 s1 o0 o1 : ℕ} (x : (⟨2, ![n0, n1]⟩ : Shape).Idx → α) (off : Fin 2 → ℕ) (ho : off = ![o0, o1])
    (inb : ∀ a, off a + ![s0, s1] a ≤ (⟨2, ![n0, n1]⟩ : Shape).size a) (y0 : Fin s0) (y1 : Fin s1) (i : Fin n0) (j : Fin n1)
    (hi : i.val = o0 + y0.val) (hj : j.val = o1 + y1.val) :
    window x off ![s0, s1] inb (ix2 y0 y1) = x (ix2 i j) := by
  subst ho
  refine congrArg x (funext fun a => ?_)
  fin_cases a
  · exact Fin.ext (by show o0 + 1 * y0.val = i.val; omega)
  · exact Fin.ext (by show o1 + 1 * y1.val = j.val; omega)

theorem window3 {n0 n1 n2 s0 s1 s2 o0 o1 o2 : ℕ} (x : (⟨3, ![n0, n1, n2]⟩ : Shape).Idx → α) (off : Fin 3 → ℕ) (ho : off = ![o0, o1, o2])
    (inb : ∀ a, off a + ![s0, s1, s2] a ≤ (⟨3, ![n0, n1, n2]⟩ : Shape).size a) (y0 : Fin s0) (y1 : Fin s1) (y2 : Fin s2)
    (i : Fin n0) (j : Fin n1) (k : Fin n2) (hi : i.val = o0 + y0.val) (hj : j.val = o1 + y1.val) (hk : k.val = o2 + y2.val) :
    window x off ![s0, s1, s2] inb (ix3 y0 y1 y2) = x (ix3 i j k) := by
  subst ho
  refine congrArg x (funext fun a => ?_)
  fin_cases a
  · exact Fin.ext (by show o0 + 1 * y0.val = i.val; omega)
  · exact Fin.ext (by show o1 + 1 * y1.val = j.val; omega)
  · exact Fin.ext (by show o2 + 1 * y2.val = k.val; omega)

theorem put2_in {n0 n1 s0 s1 o0 o1 : ℕ} (x : (⟨2, ![n0, n1]⟩ : Shape).Idx → α) (off : Fin 2 → ℕ) (ho : off = ![o0, o1])
    (w : (⟨2, ![s0, s1]⟩ : Shape).Idx → α) (y0 : Fin s0) (y1 : Fin s1) (i : Fin n0) (j : Fin n1)
    (hi : i.val = o0 + y0.val) (hj : j.val = o1 + y1.val) :
    put x off ![s0, s1] w (ix2 i j) = w (ix2 y0 y1) := by
  subst ho
  unfold put
  rw [dif_pos (by
    intro a
    fin_cases a
    · show o0 ≤ i.val ∧ i.val < o0 + s0; omega
    · show o1 ≤ j.val ∧ j.val < o1 + s1; omega)]
  refine congrArg w (funext fun a => ?_)
  fin_cases a
  · exact Fin.ext (by show i.val - o0 = y0.val; omega)
  · exact Fin.ext (by show j.val - o1 = y1.val; omega)

theorem put2_out {n0 n1 s0 s1 o0 o1 : ℕ} (x : (⟨2, ![n0, n1]⟩ : Shape).Idx → α) (off : Fin 2 → ℕ) (ho : off = ![o0, o1])
    (w : (⟨2, ![s0, s1]⟩ : Shape).Idx → α) (i : Fin n0) (j : Fin n1)
    (h : ¬ (o0 ≤ i.val ∧ i.val < o0 + s0) ∨ ¬ (o1 ≤ j.val ∧ j.val < o1 + s1)) :
    put x off ![s0, s1] w (ix2 i j) = x (ix2 i j) := by
  subst ho
  unfold put
  rw [dif_neg (by
    intro g
    have g0 : o0 ≤ i.val ∧ i.val < o0 + s0 := g 0
    have g1 : o1 ≤ j.val ∧ j.val < o1 + s1 := g 1
    rcases h with h | h
    · exact h g0
    · exact h g1)]

theorem put3_in {n0 n1 n2 s0 s1 s2 o0 o1 o2 : ℕ} (x : (⟨3, ![n0, n1, n2]⟩ : Shape).Idx → α) (off : Fin 3 → ℕ) (ho : off = ![o0, o1, o2])
    (w : (⟨3, ![s0, s1, s2]⟩ : Shape).Idx → α) (y0 : Fin s0) (y1 : Fin s1) (y2 : Fin s2)
    (i : Fin n0) (j : Fin n1) (k : Fin n2) (hi : i.val = o0 + y0.val) (hj : j.val = o1 + y1.val) (hk : k.val = o2 + y2.val) :
    put x off ![s0, s1, s2] w (ix3 i j k) = w (ix3 y0 y1 y2) := by
  subst ho
  unfold put
  rw [dif_pos (by
    intro a
    fin_cases a
    · show o0 ≤ i.val ∧ i.val < o0 + s0; omega
    · show o1 ≤ j.val ∧ j.val < o1 + s1; omega
    · show o2 ≤ k.val ∧ k.val < o2 + s2; omega)]
  refine congrArg w (funext fun a => ?_)
  fin_cases a
  · exact Fin.ext (by show i.val - o0 = y0.val; omega)
  · exact Fin.ext (by show j.val - o1 = y1.val; omega)
  · exact Fin.ext (by show k.val - o2 = y2.val; omega)

theorem put3_out {n0 n1 n2 s0 s1 s2 o0 o1 o2 : ℕ} (x : (⟨3, ![n0, n1, n2]⟩ : Shape).Idx → α) (off : Fin 3 → ℕ) (ho : off = ![o0, o1, o2])
    (w : (⟨3, ![s0, s1, s2]⟩ : Shape).Idx → α) (i : Fin n0) (j : Fin n1) (k : Fin n2)
    (h : ¬ (o0 ≤ i.val ∧ i.val < o0 + s0) ∨ ¬ (o1 ≤ j.val ∧ j.val < o1 + s1) ∨ ¬ (o2 ≤ k.val ∧ k.val < o2 + s2)) :
    put x off ![s0, s1, s2] w (ix3 i j k) = x (ix3 i j k) := by
  subst ho
  unfold put
  rw [dif_neg (by
    intro g
    have g0 : o0 ≤ i.val ∧ i.val < o0 + s0 := g 0
    have g1 : o1 ≤ j.val ∧ j.val < o1 + s1 := g 1
    have g2 : o2 ≤ k.val ∧ k.val < o2 + s2 := g 2
    rcases h with h | h | h
    · exact h g0
    · exact h g1
    · exact h g2)]

/-! ## A sum over the slots, chunk by chunk -/

/-- The sum of the first `k` chunks. -/
def part (f : Fin 16384 → ℝ) (k : ℕ) : ℝ := ∑ i ∈ Finset.range (2048 * k), if h : i < 16384 then f ⟨i, h⟩ else 0

theorem part_zero (f : Fin 16384 → ℝ) : part f 0 = 0 := by simp [part]

theorem part_succ (f : Fin 16384 → ℝ) (k : ℕ) (hk : k < 8) :
    part f (k + 1) = part f k + ∑ l : Fin 2048, f ⟨2048 * k + l.val, by have := l.isLt; omega⟩ := by
  unfold part
  rw [Nat.mul_succ, Finset.sum_range_add, Finset.sum_range (n := 2048)]
  refine congrArg _ (Finset.sum_congr rfl fun l _ => ?_)
  exact dif_pos (by have := l.isLt; omega)

theorem part_all (f : Fin 16384 → ℝ) : part f 8 = ∑ m, f m := by
  unfold part
  rw [show 2048 * 8 = 16384 from rfl, Finset.sum_range]
  exact Finset.sum_congr rfl fun m _ => dif_pos m.isLt

end Cert.Windows
-- ==== Proof.KSoft.lean ====
/- The kernel's scores and weights at an index, when the operands hold reals. -/
module

public import proofs.«01_k».proof.Proof.KPay
public import proofs.«01_k».proof.Proof.Windows

@[expose] public section

set_option maxRecDepth 16384

noncomputable section

namespace Cert.KernelIdeal.Read

open Cert.KernelIdeal Cert.KernelIdeal.Gen
open Idealize.ShloMosaic Idealize.ShloMosaic.TcCoe
open Idealize.ShloMosaic.VecWindow (window put)
open Cert.Reals Cert.Spec Cert.Windows

theorem put_row (x : Vec Ideal S8x16384 .f32) (r : ℕ) (w : Vec Ideal S1x16384 .f32) (b : Fin 8) (m : Fin 16384) :
    put x ![r, 0] ![1, 16384] w (ix2 b m) = if b.val = r then w (ix2 0 m) else x (ix2 b m) := by
  by_cases h : b.val = r
  · rw [if_pos h]
    exact put2_in x _ rfl w 0 m b m (by simpa using h) (by simp)
  · rw [if_neg h]
    exact put2_out x _ rfl w b m (.inl (by omega))

theorem put_rows (x : Vec Ideal S8x16384 .f32) (w0 w1 w2 w3 w4 w5 w6 w7 : Vec Ideal S1x16384 .f32) (f : Fin 8 → Fin 16384 → EReal)
    (h0 : ∀ m, w0 (ix2 0 m) = f 0 m) (h1 : ∀ m, w1 (ix2 0 m) = f 1 m) (h2 : ∀ m, w2 (ix2 0 m) = f 2 m) (h3 : ∀ m, w3 (ix2 0 m) = f 3 m) (h4 : ∀ m, w4 (ix2 0 m) = f 4 m) (h5 : ∀ m, w5 (ix2 0 m) = f 5 m) (h6 : ∀ m, w6 (ix2 0 m) = f 6 m) (h7 : ∀ m, w7 (ix2 0 m) = f 7 m)
    (b : Fin 8) (m : Fin 16384) :
    (put (put (put (put (put (put (put (put x ![0, 0] ![1, 16384] w0) ![1, 0] ![1, 16384] w1) ![2, 0] ![1, 16384] w2) ![3, 0] ![1, 16384] w3) ![4, 0] ![1, 16384] w4) ![5, 0] ![1, 16384] w5) ![6, 0] ![1, 16384] w6) ![7, 0] ![1, 16384] w7) (ix2 b m) = f b m := by
  rw [put_row, put_row, put_row, put_row, put_row, put_row, put_row, put_row, h0, h1, h2, h3, h4, h5, h6, h7]
  match b with
  | 0 => rfl
  | 1 => rfl
  | 2 => rfl
  | 3 => rfl
  | 4 => rfl
  | 5 => rfl
  | 6 => rfl
  | 7 => rfl

section Score

variable (t : Fin k0_t2_loop.trips) (I : Model.Ins Ideal) (X : Fin 8 → Fin 64 → ℝ) (P : Par)
  (c : Vec Ideal S8x64x16384 .f32) (C : Fin 8 → Mem)

/-- The operands of a step hold the parameters `P` and, at the step's rows, `X`. -/
structure Holds : Prop where
  x : ∀ b j, I.xt t (ix3 0 b j) = ((X b j : ℝ) : EReal)
  wq : ∀ i d, I.wq (ix2 i d) = ((P.wq d i : ℝ) : EReal)
  bq : ∀ d, I.bq (ix2 0 d) = ((P.bq d : ℝ) : EReal)
  wk : ∀ d j, I.wk (ix2 d j) = ((P.wk d j : ℝ) : EReal)
  bk : ∀ d, I.bk (ix2 0 d) = ((P.bk d : ℝ) : EReal)
  wv : ∀ j d, I.wv (ix2 j d) = ((P.wv d j : ℝ) : EReal)
  bv : ∀ d, I.bv (ix2 0 d) = P.bv d
  u1 : ∀ j d, I.u1 (ix2 j d) = P.u1 d j
  u2 : ∀ j d, I.u2 (ix2 j d) = P.u2 d j
  bu : ∀ d, I.bu (ix2 0 d) = P.bu d

variable (H : Holds t I X P) (hc : ∀ b j m, c (ix3 b j m) = ((C b m j : ℝ) : EReal))

include hc in
theorem row_at (b : Fin 8) (inb : ∀ a, ![b.val, 0, 0] a + S1x64x16384.size a ≤ S8x64x16384.size a) (j : Fin 64) (m : Fin 16384) :
    window c ![b.val, 0, 0] S1x64x16384.size inb (ix3 0 j m) = ((C b m j : ℝ) : EReal) :=
  (window3 c _ rfl inb 0 j m b j m (by simp) (by simp) (by simp)).trans (hc b j m)

include H in
theorem qk_at (b : Fin 8) (j : Fin 64) : I.qk t (ix2 b j) = ((carried P (X b) j : ℝ) : EReal) :=
  pay11_at (I.xt t) I.wq I.wk I.bq X P H.x H.wq H.bq H.wk b j

include H in
theorem qbk_at (b : Fin 8) (j : Fin 1) : I.qbk t (ix2 b j) = ((offset P (X b) : ℝ) : EReal) :=
  pay12_at (I.xt t) I.wq I.bq I.bk X P H.x H.wq H.bq H.bk b j

include H hc

/-- Row 0's scores. -/
theorem score0_at (m : Fin 16384) :
    k0_pay13 (I.xt t) I.wq I.bq I.wk I.bk (Model.row0 c) (ix2 0 m) = ((logit P (X 0) (C 0) m : ℝ) : EReal) := by
  have hqk : ∀ b j, k0_pay11 (I.xt t) I.wq I.bq I.wk (ix2 b j) = ((carried P (X b) j : ℝ) : EReal) := qk_at t I X P H
  have hqbk : ∀ b j, k0_pay12 (I.xt t) I.wq I.bq I.bk (ix2 b j) = ((offset P (X b) : ℝ) : EReal) := qbk_at t I X P H
  have hr : ∀ j m, Model.row0 c (ix3 0 j m) = ((C 0 m j : ℝ) : EReal) := row_at c C hc 0 inb_S8x64x16384_S1x64x16384_0_0_0
  pointwise [k0_pay13]
  simp only [hqk, hqbk, hr, ofBits_eight, ← EReal.coe_mul, coe_sum, ← EReal.coe_add, div_coe _ (by norm_num : (8 : ℝ) ≠ 0), logit]

theorem stored0_at (m : Fin 16384) :
    k0_pay14 (I.xt t) I.wq I.bq I.wk I.bk (Model.row0 c) (ix2 0 m) = ((logit P (X 0) (C 0) m : ℝ) : EReal) := by
  rw [← score0_at t I X P c C H hc m]
  pointwise [k0_pay14]

theorem max0_at :
    k0_pay15 (I.xt t) I.wq I.bq I.wk I.bk (Model.row0 c) (ix2 0 0) = ((top (logit P (X 0) (C 0)) : ℝ) : EReal) := by
  have h := score0_at t I X P c C H hc
  pointwise [k0_pay15]
  simp only [h, ofBits_negInf, fold_max]

/-- Row 1's scores. -/
theorem score1_at (m : Fin 16384) :
    k0_pay17 (I.qbk t) (k0_pay16 (I.xt t) I.wq I.bq I.wk) (Model.row1 c) (ix2 0 m) = ((logit P (X 1) (C 1) m : ℝ) : EReal) := by
  have hqk : ∀ b j, k0_pay11 (I.xt t) I.wq I.bq I.wk (ix2 b j) = ((carried P (X b) j : ℝ) : EReal) := qk_at t I X P H
  have hqbk : ∀ b j, I.qbk t (ix2 b j) = ((offset P (X b) : ℝ) : EReal) := qbk_at t I X P H
  have hr : ∀ j m, Model.row1 c (ix3 0 j m) = ((C 1 m j : ℝ) : EReal) := row_at c C hc 1 inb_S8x64x16384_S1x64x16384_1_0_0
  pointwise [k0_pay17, k0_pay16]
  simp only [hqk, hqbk, hr, ofBits_eight, ← EReal.coe_mul, coe_sum, ← EReal.coe_add, div_coe _ (by norm_num : (8 : ℝ) ≠ 0), logit]

theorem stored1_at (m : Fin 16384) :
    k0_pay18 (I.qbk t) (k0_pay16 (I.xt t) I.wq I.bq I.wk) (Model.row1 c) (ix2 0 m) = ((logit P (X 1) (C 1) m : ℝ) : EReal) := by
  rw [← score1_at t I X P c C H hc m]
  pointwise [k0_pay18]

theorem max1_at :
    k0_pay19 (I.qbk t) (k0_pay16 (I.xt t) I.wq I.bq I.wk) (Model.row1 c) (ix2 0 0) = ((top (logit P (X 1) (C 1)) : ℝ) : EReal) := by
  have h := score1_at t I X P c C H hc
  pointwise [k0_pay19]
  simp only [h, ofBits_negInf, fold_max]

/-- Row 2's scores. -/
theorem score2_at (m : Fin 16384) :
    k0_pay20 (I.qk t) (I.qbk t) (Model.row2 c) (ix2 0 m) = ((logit P (X 2) (C 2) m : ℝ) : EReal) := by
  have hqk := qk_at t I X P H
  have hqbk := qbk_at t I X P H
  have hr : ∀ j m, Model.row2 c (ix3 0 j m) = ((C 2 m j : ℝ) : EReal) := row_at c C hc 2 inb_S8x64x16384_S1x64x16384_2_0_0
  pointwise [k0_pay20]
  simp only [hqk, hqbk, hr, ofBits_eight, ← EReal.coe_mul, coe_sum, ← EReal.coe_add, div_coe _ (by norm_num : (8 : ℝ) ≠ 0), logit]

theorem stored2_at (m : Fin 16384) :
    k0_pay21 (I.qk t) (I.qbk t) (Model.row2 c) (ix2 0 m) = ((logit P (X 2) (C 2) m : ℝ) : EReal) := by
  rw [← score2_at t I X P c C H hc m]
  pointwise [k0_pay21]

theorem max2_at :
    k0_pay22 (I.qk t) (I.qbk t) (Model.row2 c) (ix2 0 0) = ((top (logit P (X 2) (C 2)) : ℝ) : EReal) := by
  have h := score2_at t I X P c C H hc
  pointwise [k0_pay22]
  simp only [h, ofBits_negInf, fold_max]

/-- Row 3's scores. -/
theorem score3_at (m : Fin 16384) :
    k0_pay23 (I.qk t) (I.qbk t) (Model.row3 c) (ix2 0 m) = ((logit P (X 3) (C 3) m : ℝ) : EReal) := by
  have hqk := qk_at t I X P H
  have hqbk := qbk_at t I X P H
  have hr : ∀ j m, Model.row3 c (ix3 0 j m) = ((C 3 m j : ℝ) : EReal) := row_at c C hc 3 inb_S8x64x16384_S1x64x16384_3_0_0
  pointwise [k0_pay23]
  simp only [hqk, hqbk, hr, ofBits_eight, ← EReal.coe_mul, coe_sum, ← EReal.coe_add, div_coe _ (by norm_num : (8 : ℝ) ≠ 0), logit]

theorem stored3_at (m : Fin 16384) :
    k0_pay24 (I.qk t) (I.qbk t) (Model.row3 c) (ix2 0 m) = ((logit P (X 3) (C 3) m : ℝ) : EReal) := by
  rw [← score3_at t I X P c C H hc m]
  pointwise [k0_pay24]

theorem max3_at :
    k0_pay25 (k0_pay23 (I.qk t) (I.qbk t) (Model.row3 c)) (ix2 0 0) = ((top (logit P (X 3) (C 3)) : ℝ) : EReal) := by
  have h := score3_at t I X P c C H hc
  pointwise [k0_pay25]
  simp only [h, ofBits_negInf, fold_max]

/-- Row 4's scores. -/
theorem score4_at (m : Fin 16384) :
    k0_pay26 (I.qk t) (I.qbk t) (Model.row4 c) (ix2 0 m) = ((logit P (X 4) (C 4) m : ℝ) : EReal) := by
  have hqk := qk_at t I X P H
  have hqbk := qbk_at t I X P H
  have hr : ∀ j m, Model.row4 c (ix3 0 j m) = ((C 4 m j : ℝ) : EReal) := row_at c C hc 4 inb_S8x64x16384_S1x64x16384_4_0_0
  pointwise [k0_pay26]
  simp only [hqk, hqbk, hr, ofBits_eight, ← EReal.coe_mul, coe_sum, ← EReal.coe_add, div_coe _ (by norm_num : (8 : ℝ) ≠ 0), logit]

theorem stored4_at (m : Fin 16384) :
    k0_pay27 (I.qk t) (I.qbk t) (Model.row4 c) (ix2 0 m) = ((logit P (X 4) (C 4) m : ℝ) : EReal) := by
  rw [← score4_at t I X P c C H hc m]
  pointwise [k0_pay27]

theorem max4_at :
    k0_pay28 (I.qk t) (I.qbk t) (Model.row4 c) (ix2 0 0) = ((top (logit P (X 4) (C 4)) : ℝ) : EReal) := by
  have h := score4_at t I X P c C H hc
  pointwise [k0_pay28]
  simp only [h, ofBits_negInf, fold_max]

/-- Row 5's scores. -/
theorem score5_at (m : Fin 16384) :
    k0_pay29 (I.qk t) (I.qbk t) (Model.row5 c) (ix2 0 m) = ((logit P (X 5) (C 5) m : ℝ) : EReal) := by
  have hqk := qk_at t I X P H
  have hqbk := qbk_at t I X P H
  have hr : ∀ j m, Model.row5 c (ix3 0 j m) = ((C 5 m j : ℝ) : EReal) := row_at c C hc 5 inb_S8x64x16384_S1x64x16384_5_0_0
  pointwise [k0_pay29]
  simp only [hqk, hqbk, hr, ofBits_eight, ← EReal.coe_mul, coe_sum, ← EReal.coe_add, div_coe _ (by norm_num : (8 : ℝ) ≠ 0), logit]

theorem stored5_at (m : Fin 16384) :
    k0_pay30 (I.qk t) (I.qbk t) (Model.row5 c) (ix2 0 m) = ((logit P (X 5) (C 5) m : ℝ) : EReal) := by
  rw [← score5_at t I X P c C H hc m]
  pointwise [k0_pay30]

theorem max5_at :
    k0_pay31 (I.qk t) (I.qbk t) (Model.row5 c) (ix2 0 0) = ((top (logit P (X 5) (C 5)) : ℝ) : EReal) := by
  have h := score5_at t I X P c C H hc
  pointwise [k0_pay31]
  simp only [h, ofBits_negInf, fold_max]

/-- Row 6's scores. -/
theorem score6_at (m : Fin 16384) :
    k0_pay34 (k0_pay32 (I.qk t) (Model.row6 c)) (k0_pay33 (I.qbk t)) (ix2 0 m) = ((logit P (X 6) (C 6) m : ℝ) : EReal) := by
  have hqk := qk_at t I X P H
  have hqbk := qbk_at t I X P H
  have hr : ∀ j m, Model.row6 c (ix3 0 j m) = ((C 6 m j : ℝ) : EReal) := row_at c C hc 6 inb_S8x64x16384_S1x64x16384_6_0_0
  pointwise [k0_pay34, k0_pay32, k0_pay33]
  simp only [hqk, hqbk, hr, ofBits_eight, ← EReal.coe_mul, coe_sum, ← EReal.coe_add, div_coe _ (by norm_num : (8 : ℝ) ≠ 0), logit]

theorem stored6_at (m : Fin 16384) :
    k0_pay35 (k0_pay32 (I.qk t) (Model.row6 c)) (k0_pay33 (I.qbk t)) (ix2 0 m) = ((logit P (X 6) (C 6) m : ℝ) : EReal) := by
  rw [← score6_at t I X P c C H hc m]
  pointwise [k0_pay35]

/-- Row 7's scores. -/
theorem score7_at (m : Fin 16384) :
    k0_pay36 (I.qk t) (I.qbk t) (Model.row7 c) (ix2 0 m) = ((logit P (X 7) (C 7) m : ℝ) : EReal) := by
  have hqk := qk_at t I X P H
  have hqbk := qbk_at t I X P H
  have hr : ∀ j m, Model.row7 c (ix3 0 j m) = ((C 7 m j : ℝ) : EReal) := row_at c C hc 7 inb_S8x64x16384_S1x64x16384_7_0_0
  pointwise [k0_pay36]
  simp only [hqk, hqbk, hr, ofBits_eight, ← EReal.coe_mul, coe_sum, ← EReal.coe_add, div_coe _ (by norm_num : (8 : ℝ) ≠ 0), logit]

theorem stored7_at (m : Fin 16384) :
    k0_pay37 (I.qk t) (I.qbk t) (Model.row7 c) (ix2 0 m) = ((logit P (X 7) (C 7) m : ℝ) : EReal) := by
  rw [← score7_at t I X P c C H hc m]
  pointwise [k0_pay37]

/-- All the scores. -/
theorem logits_at (b : Fin 8) (m : Fin 16384) : Model.logits I t c (ix2 b m) = ((logit P (X b) (C b) m : ℝ) : EReal) := by
  exact put_rows _ _ _ _ _ _ _ _ _ (fun b m => ((logit P (X b) (C b) m : ℝ) : EReal)) (stored0_at t I X P c C H hc) (stored1_at t I X P c C H hc) (stored2_at t I X P c C H hc) (stored3_at t I X P c C H hc) (stored4_at t I X P c C H hc) (stored5_at t I X P c C H hc) (stored6_at t I X P c C H hc) (stored7_at t I X P c C H hc) b m

end Score

end Cert.KernelIdeal.Read
-- ==== Proof.KPick.lean ====
/- One round of the kernel's selection: the largest weight not yet marked is marked. -/
module

public import proofs.«01_k».proof.Proof.Spec
public import proofs.«01_k».proof.Proof.KernelIdealModel
public import Idealize.ShloMosaic.Lib.WordCmp

@[expose] public section

set_option maxRecDepth 16384

noncomputable section

namespace Cert.KernelIdeal.Read

open Cert.KernelIdeal Cert.KernelIdeal.Gen
open Idealize.ShloMosaic Idealize.ShloMosaic.TcCoe
open Cert.Reals Cert.Selection

/-! ## The smallest of the positions -/

theorem minsi_words {a b : ℕ} (ha : a < 2 ^ 31) (hb : b < 2 ^ 31) :
    IntOp.minsi (BitVec.ofNat 32 a) (BitVec.ofNat 32 b) = BitVec.ofNat 32 (min a b) := by
  unfold IntOp.minsi
  have e : (BitVec.ofNat 32 a).slt (BitVec.ofNat 32 b) = decide (a < b) := by
    rw [BitVec.slt, WordCmp.toInt_ofNat_of_lt (by omega), WordCmp.toInt_ofNat_of_lt (by omega)]
    exact decide_eq_decide.2 Int.ofNat_lt
  rw [e]
  by_cases h : a < b
  · rw [if_pos (decide_eq_true h), min_eq_left h.le]
  · rw [if_neg (by simpa using h), min_eq_right (not_lt.1 h)]

theorem fold_minsi {ι : Type} (s : Finset ι) (f : ι → ℕ) (hf : ∀ i, f i < 2 ^ 31) :
    s.fold IntOp.minsi 2147483647#32 (fun i => BitVec.ofNat 32 (f i)) = BitVec.ofNat 32 (s.fold min 2147483647 f)
      ∧ s.fold min 2147483647 f < 2 ^ 31 := by
  classical
  induction s using Finset.induction_on with
  | empty => exact ⟨rfl, by rw [Finset.fold_empty]; omega⟩
  | insert a s ha ih =>
    rw [Finset.fold_insert ha, Finset.fold_insert ha, ih.1, minsi_words (hf a) ih.2]
    exact ⟨rfl, (min_le_left _ _).trans_lt (hf a)⟩

/-- The least position at which `Q` holds, as the kernel takes it: a minimum over all positions, 16384 standing where `Q` fails. -/
theorem first_position (Q : Fin 16384 → Prop) [DecidablePred Q] (p : Fin 16384) (hp : Q p) (hl : ∀ x, Q x → p ≤ x) :
    Finset.univ.fold IntOp.minsi 2147483647#32 (fun x : Fin 16384 => if Q x then BitVec.ofNat 32 x.val else 16384#32)
      = BitVec.ofNat 32 p.val := by
  have e : (fun x : Fin 16384 => if Q x then BitVec.ofNat 32 x.val else 16384#32)
      = fun x : Fin 16384 => BitVec.ofNat 32 (if Q x then x.val else 16384) := by
    funext x
    by_cases h : Q x
    · rw [if_pos h, if_pos h]
    · rw [if_neg h, if_neg h]
  rw [e, (fold_minsi Finset.univ _ fun x => by
    have := x.isLt
    by_cases h : Q x
    · rw [if_pos h]; omega
    · rw [if_neg h]; omega).1]
  refine congrArg _ (le_antisymm ?_ ?_)
  · refine Finset.fold_min_le _ |>.2 (.inr ⟨p, Finset.mem_univ _, ?_⟩)
    rw [if_pos hp]
  · refine Finset.le_fold_min _ |>.2 ⟨by have := p.isLt; omega, fun x _ => ?_⟩
    by_cases h : Q x
    · rw [if_pos h]; exact hl x h
    · rw [if_neg h]; exact p.isLt.le

/-! ## The round -/

/-- One round over one row, on the numbers: with the positions of rank below `r` marked, the largest weight among the others is that of
    the position of rank `r`, and the first position to hold it is that one. -/
theorem round (E : Fin 16384 → ℝ) (hE : ∀ m, 0 < E m) (low : ℝ) (hlow : low < 0) (r : ℕ) (p : Fin 16384) (hp : rank E p = r) :
    top (fun m => if rank E m < r then low else E m) = E p
      ∧ ∀ m, (if rank E m < r then low else E m) = E p → p ≤ m := by
  have hpp : (if rank E p < r then low else E p) = E p := if_neg (by omega)
  refine ⟨?_, fun m hm => ?_⟩
  · rw [top_eq _ p fun m => ?_, hpp]
    rw [hpp]
    by_cases h : rank E m < r
    · rw [if_pos h]; exact (hlow.trans (hE p)).le
    · rw [if_neg h]; exact le_of_rank E hp (not_lt.1 h)
  · by_cases h : rank E m < r
    · rw [if_pos h] at hm
      have := hE p
      linarith
    · rw [if_neg h] at hm
      exact first_of_rank E hp (not_lt.1 h) hm

theorem pay8_at (mk e : Vec Ideal S8x16384 .f32) (E : Fin 8 → Fin 16384 → ℝ) (r : ℕ) (hr : r < 16384)
    (he : ∀ b m, e (ix2 b m) = ((E b m : ℝ) : EReal)) (hE : ∀ b m, 0 < E b m)
    (hm : ∀ b m, mk (ix2 b m) = (((if rank (E b) m < r then 1 else 0 : ℝ)) : EReal)) (b : Fin 8) (m : Fin 16384) :
    k0_pay8 mk e mk (ix2 b m) = (((if rank (E b) m < r + 1 then 1 else 0 : ℝ)) : EReal) := by
  obtain ⟨low, hlow, hbits⟩ := ofBits_low
  obtain ⟨p, hp⟩ := exists_rank (E b) hr
  obtain ⟨htop, hfirst⟩ := round (E b) (hE b) low hlow r p hp
  have hw : (fun x : Fin 16384 => if 0 < mk (ix2 b x) then Ideal.ofBits .f32 0xF149F2CA#32 else e (ix2 b x))
      = fun x => (((if rank (E b) x < r then low else E b x : ℝ)) : EReal) := by
    funext x
    rw [hm, he, hbits]
    by_cases h : rank (E b) x < r
    · rw [if_pos h, if_pos h, if_pos (by exact_mod_cast zero_lt_one)]
    · rw [if_neg h, if_neg h, if_neg (by simp)]
  have hmax : Finset.univ.fold max (Ideal.ofBits .f32 0xFF800000#32)
      (fun x : Fin 16384 => if 0 < mk (ix2 b x) then Ideal.ofBits .f32 0xF149F2CA#32 else e (ix2 b x)) = ((E b p : ℝ) : EReal) := by
    rw [hw, ofBits_negInf, fold_max, htop]
  have hlt : Ideal.ofBits .f32 0xF149F2CA#32 < ((E b p : ℝ) : EReal) := by
    rw [hbits]
    exact_mod_cast hlow.trans (hE b p)
  have hmin : Finset.univ.fold IntOp.minsi 2147483647#32 (fun x : Fin 16384 =>
      if (if 0 < mk (ix2 b x) then Ideal.ofBits .f32 0xF149F2CA#32 else e (ix2 b x)) = ((E b p : ℝ) : EReal)
        then IntOp.addi (BitVec.ofNat 32 x.val) (Scalar.muli 0#32 16384#32) else 16384#32) = BitVec.ofNat 32 p.val := by
    have hz : ∀ x : Fin 16384, IntOp.addi (BitVec.ofNat 32 x.val) (Scalar.muli 0#32 16384#32) = BitVec.ofNat 32 x.val :=
      fun x => BitVec.add_zero _
    simp only [hz]
    refine first_position _ p ?_ fun x hx => hfirst x ?_
    · have := congrFun hw p
      rw [this, if_neg (by omega)]
    · have h := (congrFun hw x).symm.trans hx
      exact_mod_cast h
  pointwise [k0_pay8]
  rw [hmax, if_pos hlt, hmin, show IntOp.addi (BitVec.ofNat 32 m.val) (Scalar.muli 0#32 16384#32) = BitVec.ofNat 32 m.val from BitVec.add_zero _,
    WordCmp.cmpi_eq_eq, WordCmp.select_decide, hm]
  have hpm : (BitVec.ofNat 32 m.val = BitVec.ofNat 32 p.val) ↔ rank (E b) m = r := by
    rw [WordCmp.ofNat_eq_ofNat_iff (by have := m.isLt; omega) (by have := p.isLt; omega)]
    constructor
    · intro h
      rw [Fin.ext h, hp]
    · intro h
      rw [rank_inj (E b) (h.trans hp.symm)]
  by_cases h : rank (E b) m = r
  · rw [if_pos (hpm.2 h), if_pos (by omega)]
    rfl
  · rw [if_neg (mt hpm.1 h)]
    by_cases g : rank (E b) m < r
    · rw [if_pos g, if_pos (by omega)]
    · rw [if_neg g, if_neg (by omega)]

/-- The rounds, from a mask that marks nothing: after `k` of them exactly the positions of rank below `k` are marked. -/
theorem pick_at (e mk : Vec Ideal S8x16384 .f32) (E : Fin 8 → Fin 16384 → ℝ) (he : ∀ b m, e (ix2 b m) = ((E b m : ℝ) : EReal))
    (hE : ∀ b m, 0 < E b m) (h0 : ∀ b m, mk (ix2 b m) = ((0 : ℝ) : EReal)) (k : ℕ) (hk : k ≤ 8) (b : Fin 8) (m : Fin 16384) :
    Model.pick e mk k (ix2 b m) = (((if rank (E b) m < k then 1 else 0 : ℝ)) : EReal) := by
  induction k generalizing b m with
  | zero => rw [if_neg (Nat.not_lt_zero _)]; exact h0 b m
  | succ k ih =>
    rw [Model.pick, if_pos (by rw [Model.t4_trips]; omega)]
    have := pay8_at (Model.pick e mk k) e E k (by omega) he hE (fun b m => ih (by omega) b m) b m
    rw [← this]
    pointwise [k0_pay5]

end Cert.KernelIdeal.Read
-- ==== Proof.KStep.lean ====
/- One step of the kernel at an index, when the operands hold the layer's: the weights, the weighted sums, the read-out and the update. -/
module

public import proofs.«01_k».proof.Proof.KSoft
public import proofs.«01_k».proof.Proof.KPick

@[expose] public section

set_option maxRecDepth 16384

noncomputable section

namespace Cert.KernelIdeal.Read

open Cert.KernelIdeal Cert.KernelIdeal.Gen
open Idealize.ShloMosaic Idealize.ShloMosaic.TcCoe
open Idealize.ShloMosaic.VecWindow (window put)
open Cert.Reals Cert.Spec Cert.Windows Cert.Selection

section Chunk

variable (v13 : FVec Ideal S8x64 .f32) (v19 : FVec Ideal S8x1 .f32) (v33 v47 v61 v75 v89 v103 : FVec Ideal S1x1 .f32)
  (v107 v109 : FVec Ideal S1x16384 .f32) (v119 : Vec Ideal S1x64x16384 .f32) (w : Vec Ideal S8x2048 .f32)
  (L : Fin 8 → Fin 16384 → ℝ) (W : Fin 8 → Fin 2048 → ℝ)
  (h0 : v33 (ix2 0 0) = ((top (L 0) : ℝ) : EReal)) (h1 : v47 (ix2 0 0) = ((top (L 1) : ℝ) : EReal))
  (h2 : v61 (ix2 0 0) = ((top (L 2) : ℝ) : EReal)) (h3 : v75 (ix2 0 0) = ((top (L 3) : ℝ) : EReal))
  (h4 : v89 (ix2 0 0) = ((top (L 4) : ℝ) : EReal)) (h5 : v103 (ix2 0 0) = ((top (L 5) : ℝ) : EReal))
  (h6 : ∀ m, k0_pay34 v107 v109 (ix2 0 m) = ((L 6 m : ℝ) : EReal)) (h7 : ∀ m, k0_pay36 v13 v19 v119 (ix2 0 m) = ((L 7 m : ℝ) : EReal))
  (hw : ∀ b l, w (ix2 b l) = ((W b l : ℝ) : EReal))

include h0 h1 h2 h3 h4 h5 h6 h7 hw in
/-- A chunk's weights: the exponentials of its scores less each row's greatest. -/
theorem pay40_at (b : Fin 8) (l : Fin 2048) : k0_pay40 v13 v19 v33 v47 v61 v75 v89 v103 v107 v109 v119 w (ix2 b l)
    = ((Real.exp (W b l - top (L b)) : ℝ) : EReal) := by
  pointwise [k0_pay40]
  rw [hw]
  simp only [h6, h7, ofBits_negInf, fold_max]
  have key : ∀ (y : EReal) (T : ℝ), y = ((T : ℝ) : EReal) → Ideal.exp (((W b l : ℝ) : EReal) - y) = ((Real.exp (W b l - T) : ℝ) : EReal) := by
    rintro y T rfl
    rw [← EReal.coe_sub, Ideal.exp_coe]
  fin_vals b with hk
  all_goals simp only [hk, Nat.reduceSub, Nat.reduceLT, ↓reduceDIte]
  · exact (show b = 0 from Fin.ext hk) ▸ key _ _ h0
  · exact (show b = 1 from Fin.ext hk) ▸ key _ _ h1
  · exact (show b = 2 from Fin.ext hk) ▸ key _ _ h2
  · exact (show b = 3 from Fin.ext hk) ▸ key _ _ h3
  · exact (show b = 4 from Fin.ext hk) ▸ key _ _ h4
  · exact (show b = 5 from Fin.ext hk) ▸ key _ _ h5
  · exact (show b = 6 from Fin.ext hk) ▸ key _ _ rfl
  · exact (show b = 7 from Fin.ext hk) ▸ key _ _ rfl

include h0 h1 h2 h3 h4 h5 h6 h7 in
/-- The second pass after `k` chunks: the weights' sums and the weighted sums over the chunks done, and the weights in place of their scores. -/
theorem soft_at (c : Vec Ideal S8x64x16384 .f32) (C : Fin 8 → Mem) (hc : ∀ b j m, c (ix3 b j m) = ((C b m j : ℝ) : EReal))
    (l : Vec Ideal S8x16384 .f32) (hl : ∀ b m, l (ix2 b m) = ((L b m : ℝ) : EReal)) (k : ℕ) (hk : k ≤ 8) :
    (∀ b, (Model.soft v13 v19 v33 v47 v61 v75 v89 v103 v107 v109 v119 c l k).1.1 (ix2 b 0)
        = ((part (fun m => Real.exp (L b m - top (L b))) k : ℝ) : EReal))
      ∧ (∀ b j, (Model.soft v13 v19 v33 v47 v61 v75 v89 v103 v107 v109 v119 c l k).1.2 (ix2 b j)
        = ((part (fun m => C b m j * Real.exp (L b m - top (L b))) k : ℝ) : EReal))
      ∧ ∀ b m, (Model.soft v13 v19 v33 v47 v61 v75 v89 v103 v107 v109 v119 c l k).2 (ix2 b m)
        = (((if m.val < 2048 * k then Real.exp (L b m - top (L b)) else L b m : ℝ)) : EReal) := by
  induction k with
  | zero =>
    refine ⟨fun b => ?_, fun b j => ?_, fun b m => ?_⟩
    · rw [part_zero]
      show k0_pay38 (F := Ideal) (ix2 b 0) = _
      pointwise [k0_pay38]
      rfl
    · rw [part_zero]
      show k0_pay39 (F := Ideal) (ix2 b j) = _
      pointwise [k0_pay39]
      rfl
    · rw [if_neg (by omega)]
      exact hl b m
  | succ k ih =>
    obtain ⟨i1, i2, i3⟩ := ih (by omega)
    have hlt : k < k0_t3_loop.trips := by rw [Model.t3_trips]; omega
    rw [Model.soft_succ _ _ _ _ _ _ _ _ _ _ _ _ _ k hlt]
    generalize Model.soft v13 v19 v33 v47 v61 v75 v89 v103 v107 v109 v119 c l k = p at i1 i2 i3 ⊢
    have hin : ∀ l : Fin 2048, 2048 * k + l.val < 16384 := fun l => by have := l.isLt; omega
    have hw : ∀ b (l : Fin 2048), window p.2 (k0_off5 ⟨k, hlt⟩) S8x2048.size (k0_off5_inb ⟨k, hlt⟩) (ix2 b l)
        = ((L b ⟨2048 * k + l.val, hin l⟩ : ℝ) : EReal) := fun b l => by
      refine (window2 p.2 _ (k0_off5_eq ⟨k, hlt⟩) (k0_off5_inb ⟨k, hlt⟩) b l b ⟨2048 * k + l.val, hin l⟩ (by simp) (by simp)).trans ?_
      rw [i3, if_neg (by simp)]
    have hcw : ∀ b j (l : Fin 2048), window c (k0_off6 ⟨k, hlt⟩) S8x64x2048.size (k0_off6_inb ⟨k, hlt⟩) (ix3 b j l)
        = ((C b ⟨2048 * k + l.val, hin l⟩ j : ℝ) : EReal) := fun b j l =>
      (window3 c _ (k0_off6_eq ⟨k, hlt⟩) (k0_off6_inb ⟨k, hlt⟩) b j l b j ⟨2048 * k + l.val, hin l⟩ (by simp) (by simp) (by simp)).trans (hc _ _ _)
    generalize window p.2 (k0_off5 ⟨k, hlt⟩) S8x2048.size (k0_off5_inb ⟨k, hlt⟩) = w at hw ⊢
    generalize window c (k0_off6 ⟨k, hlt⟩) S8x64x2048.size (k0_off6_inb ⟨k, hlt⟩) = cw at hcw ⊢
    have he := pay40_at v13 v19 v33 v47 v61 v75 v89 v103 v107 v109 v119 w L _ h0 h1 h2 h3 h4 h5 h6 h7 hw
    refine ⟨fun b => ?_, fun b j => ?_, fun b m => ?_⟩
    · show k0_pay42 v13 v19 v33 v47 v61 v75 v89 v103 v107 v109 v119 p.1.1 w (ix2 b 0) = _
      pointwise [k0_pay42]
      simp only [i1, he, coe_sum, ← EReal.coe_add]
      rw [part_succ _ k (by omega)]
    · show k0_pay43 v13 v19 v33 v47 v61 v75 v89 v103 v107 v109 v119 p.1.2 w cw (ix2 b j) = _
      pointwise [k0_pay43]
      simp only [i2, he, hcw, ← EReal.coe_mul, coe_sum, ← EReal.coe_add]
      rw [part_succ _ k (by omega)]
    · show put p.2 (k0_off5 ⟨k, hlt⟩) ![8, 2048] (k0_pay41 v13 v19 v33 v47 v61 v75 v89 v103 v107 v109 v119 w) (ix2 b m) = _
      by_cases hm : 2048 * k ≤ m.val ∧ m.val < 2048 * k + 2048
      · refine (put2_in p.2 _ (k0_off5_eq ⟨k, hlt⟩) _ b ⟨m.val - 2048 * k, by omega⟩ b m (by simp) (by show m.val = 2048 * k + (m.val - 2048 * k); omega)).trans ?_
        rw [if_pos (by omega)]
        have e41 : ∀ l, k0_pay41 v13 v19 v33 v47 v61 v75 v89 v103 v107 v109 v119 w (ix2 b l)
            = k0_pay40 v13 v19 v33 v47 v61 v75 v89 v103 v107 v109 v119 w (ix2 b l) := fun l => by
          pointwise [k0_pay41]
        rw [e41, he]
        have : (⟨2048 * k + (m.val - 2048 * k), by omega⟩ : Fin 16384) = m := Fin.ext (by show 2048 * k + (m.val - 2048 * k) = m.val; omega)
        rw [this]
      · refine (put2_out p.2 _ (k0_off5_eq ⟨k, hlt⟩) _ b m (.inr hm)).trans ?_
        rw [i3]
        by_cases g : m.val < 2048 * k
        · rw [if_pos g, if_pos (by omega)]
        · rw [if_neg g, if_neg (by omega)]

end Chunk

section Step

variable (t : Fin k0_t2_loop.trips) (I : Model.Ins Ideal) (X : Fin 8 → Fin 64 → ℝ) (P : Par)
  (c : Vec Ideal S8x64x16384 .f32) (C : Fin 8 → Mem)
  (H : Holds t I X P) (hc : ∀ b j m, c (ix3 b j m) = ((C b m j : ℝ) : EReal))

include H hc

/-- The second pass of a step, done. -/
theorem softAt_at :
    (∀ b, (Model.softAt I t c k0_t3_loop.trips).1.1 (ix2 b 0) = ((∑ m, weight P (X b) (C b) m : ℝ) : EReal))
      ∧ (∀ b j, (Model.softAt I t c k0_t3_loop.trips).1.2 (ix2 b j) = ((∑ m, C b m j * weight P (X b) (C b) m : ℝ) : EReal))
      ∧ ∀ b m, (Model.softAt I t c k0_t3_loop.trips).2 (ix2 b m) = ((weight P (X b) (C b) m : ℝ) : EReal) := by
  have h := soft_at (I.qk t) (I.qbk t) _ _ _ _ _ _ _ _ (Model.row7 c) (fun b => logit P (X b) (C b))
    (max0_at t I X P c C H hc) (max1_at t I X P c C H hc) (max2_at t I X P c C H hc) (max3_at t I X P c C H hc)
    (max4_at t I X P c C H hc) (max5_at t I X P c C H hc) (score6_at t I X P c C H hc) (score7_at t I X P c C H hc)
    c C hc (Model.logits I t c) (logits_at t I X P c C H hc) 8 le_rfl
  rw [Model.t3_trips]
  refine ⟨fun b => (h.1 b).trans ?_, fun b j => (h.2.1 b j).trans ?_, fun b m => (h.2.2 b m).trans ?_⟩
  · rw [part_all]; rfl
  · rw [part_all]; rfl
  · rw [if_pos (by have := m.isLt; omega)]; rfl

/-- The read-out before its bias. -/
theorem att_at (b : Fin 8) (d : Fin 64) : Model.att I t c (ix2 b d) = ((∑ j, mean P (X b) (C b) j * P.wv d j : ℝ) : EReal) := by
  obtain ⟨h1, h2, _⟩ := softAt_at t I X P c C H hc
  unfold Model.att
  exact pay44_at I.wv P _ _ _ (fun b => (sum_weight_pos P (X b) (C b)).ne') _ h1 h2 H.wv b d

/-- The row stored is the read-out. -/
theorem outRow_at (b : Fin 8) (d : Fin 64) : Model.outRow I t c (ix3 0 b d) = readout P (X b) (C b) d := by
  unfold Model.outRow
  exact pay4_at _ _ _ _ (att_at t I X P c C H hc) (pay45_at I.bv P H.bv) b d

/-- The update after `k` chunks. -/
theorem upd_at (m : Vec Ideal S8x16384 .f32) (M : Fin 8 → Fin 16384 → ℝ) (hm : ∀ b s, m (ix2 b s) = ((M b s : ℝ) : EReal)) (k : ℕ) (hk : k ≤ 8) :
    (∀ b j s, (Model.upd (k0_pay9 (I.xt t)) (Model.att I t c) (k0_pay45 I.bv) I.u1 I.u2 I.bu c m k).1 (ix3 b j s)
        = (((if s.val < 2048 * k then C b s j + gate P (X b) (C b) j * M b s * (X b j - C b s j) else C b s j : ℝ)) : EReal))
      ∧ ∀ b s, (Model.upd (k0_pay9 (I.xt t)) (Model.att I t c) (k0_pay45 I.bv) I.u1 I.u2 I.bu c m k).2 (ix2 b s)
        = (((if s.val < 2048 * k then 0 else M b s : ℝ)) : EReal) := by
  induction k with
  | zero =>
    refine ⟨fun b j s => ?_, fun b s => ?_⟩
    · rw [if_neg (by omega)]; exact hc b j s
    · rw [if_neg (by omega)]; exact hm b s
  | succ k ih =>
    obtain ⟨i1, i2⟩ := ih (by omega)
    have hlt : k < k0_t5_loop.trips := by rw [Model.t5_trips]; omega
    rw [Model.upd_succ _ _ _ _ _ _ _ _ k hlt]
    generalize Model.upd (k0_pay9 (I.xt t)) (Model.att I t c) (k0_pay45 I.bv) I.u1 I.u2 I.bu c m k = p at i1 i2 ⊢
    have hin : ∀ l : Fin 2048, 2048 * k + l.val < 16384 := fun l => by have := l.isLt; omega
    have hw : ∀ b (l : Fin 2048), window p.2 (k0_off9 ⟨k, hlt⟩) S8x2048.size (k0_off9_inb ⟨k, hlt⟩) (ix2 b l)
        = ((M b ⟨2048 * k + l.val, hin l⟩ : ℝ) : EReal) := fun b l => by
      refine (window2 p.2 _ (k0_off9_eq ⟨k, hlt⟩) (k0_off9_inb ⟨k, hlt⟩) b l b ⟨2048 * k + l.val, hin l⟩ (by simp) (by simp)).trans ?_
      rw [i2, if_neg (by simp)]
    have hcw : ∀ b j (l : Fin 2048), window p.1 (k0_off8 ⟨k, hlt⟩) S8x64x2048.size (k0_off8_inb ⟨k, hlt⟩) (ix3 b j l)
        = ((C b ⟨2048 * k + l.val, hin l⟩ j : ℝ) : EReal) := fun b j l => by
      refine (window3 p.1 _ (k0_off8_eq ⟨k, hlt⟩) (k0_off8_inb ⟨k, hlt⟩) b j l b j ⟨2048 * k + l.val, hin l⟩ (by simp) (by simp) (by simp)).trans ?_
      rw [i1, if_neg (by simp)]
    generalize window p.2 (k0_off9 ⟨k, hlt⟩) S8x2048.size (k0_off9_inb ⟨k, hlt⟩) = w at hw ⊢
    generalize window p.1 (k0_off8 ⟨k, hlt⟩) S8x64x2048.size (k0_off8_inb ⟨k, hlt⟩) = cw at hcw ⊢
    have hp := pay6_at I.u1 I.u2 I.bu X P (k0_pay9 (I.xt t)) (Model.att I t c) (k0_pay45 I.bv) (pay9_at (I.xt t) X H.x) _ _
      (att_at t I X P c C H hc) (pay45_at I.bv P H.bv) H.u1 H.u2 H.bu cw w
      (fun b j l => C b ⟨2048 * k + l.val, hin l⟩ j) (fun b l => M b ⟨2048 * k + l.val, hin l⟩) hcw hw
    refine ⟨fun b j s => ?_, fun b s => ?_⟩
    · show put p.1 (k0_off8 ⟨k, hlt⟩) ![8, 64, 2048] (k0_pay6 (k0_pay9 (I.xt t)) (Model.att I t c) (k0_pay45 I.bv) I.u1 I.u2 I.bu cw w) (ix3 b j s) = _
      by_cases hs : 2048 * k ≤ s.val ∧ s.val < 2048 * k + 2048
      · refine (put3_in p.1 _ (k0_off8_eq ⟨k, hlt⟩) _ b j ⟨s.val - 2048 * k, by omega⟩ b j s (by simp) (by simp)
          (by show s.val = 2048 * k + (s.val - 2048 * k); omega)).trans ?_
        rw [if_pos (by omega), hp b j _ _ (gate_coe P (X b) (C b) j)]
        have : (⟨2048 * k + (s.val - 2048 * k), by omega⟩ : Fin 16384) = s := Fin.ext (by show 2048 * k + (s.val - 2048 * k) = s.val; omega)
        rw [this]
      · refine (put3_out p.1 _ (k0_off8_eq ⟨k, hlt⟩) _ b j s (.inr (.inr hs))).trans ?_
        rw [i1]
        by_cases g : s.val < 2048 * k
        · rw [if_pos g, if_pos (by omega)]
        · rw [if_neg g, if_neg (by omega)]
    · show put p.2 (k0_off9 ⟨k, hlt⟩) ![8, 2048] (k0_pay7 (F := Ideal)) (ix2 b s) = _
      by_cases hs : 2048 * k ≤ s.val ∧ s.val < 2048 * k + 2048
      · refine (put2_in p.2 _ (k0_off9_eq ⟨k, hlt⟩) _ b ⟨s.val - 2048 * k, by omega⟩ b s (by simp)
          (by show s.val = 2048 * k + (s.val - 2048 * k); omega)).trans ?_
        rw [if_pos (by omega)]
        pointwise [k0_pay7]
        rfl
      · refine (put2_out p.2 _ (k0_off9_eq ⟨k, hlt⟩) _ b s (.inr hs)).trans ?_
        rw [i2]
        by_cases g : s.val < 2048 * k
        · rw [if_pos g, if_pos (by omega)]
        · rw [if_neg g, if_neg (by omega)]

/-- The state and the mask after a step that found the mask zero: the state is the layer's, the mask is zero again. -/
theorem next_at (m : Vec Ideal S8x16384 .f32) (hm : ∀ b s, m (ix2 b s) = ((0 : ℝ) : EReal)) :
    (∀ b j s, (Model.next I t c m).1 (ix3 b j s) = ((step P (X b) (C b) s j : ℝ) : EReal))
      ∧ ∀ b s, (Model.next I t c m).2 (ix2 b s) = ((0 : ℝ) : EReal) := by
  have hp := pick_at (Model.softAt I t c k0_t3_loop.trips).2 m (fun b => weight P (X b) (C b)) (softAt_at t I X P c C H hc).2.2
    (fun b m => weight_pos P (X b) (C b) m) hm 8 le_rfl
  have h := upd_at t I X P c C H hc (Model.pick (Model.softAt I t c k0_t3_loop.trips).2 m k0_t4_loop.trips)
    (fun b s => if rank (weight P (X b) (C b)) s < 8 then 1 else 0) (by rw [Model.t4_trips]; exact hp) 8 le_rfl
  unfold Model.next
  rw [Model.t5_trips]
  refine ⟨fun b j s => (h.1 b j s).trans ?_, fun b s => (h.2 b s).trans ?_⟩
  · rw [if_pos (by have := s.isLt; omega)]
    refine congrArg ((↑) : ℝ → EReal) ?_
    unfold step
    by_cases g : rank (weight P (X b) (C b)) s < 8
    · rw [if_pos g, if_pos g]; ring
    · rw [if_neg g, if_neg g]; ring
  · rw [if_pos (by have := s.isLt; omega)]

end Step

end Cert.KernelIdeal.Read
-- ==== Proof.KOuter.lean ====
/- The kernel's sixteen steps at an index, when the operands hold `X`, `C` and `P`. -/
module

public import proofs.«01_k».proof.Proof.KStep

@[expose] public section

set_option maxRecDepth 16384

noncomputable section

namespace Cert.KernelIdeal.Read

open Cert.KernelIdeal Cert.KernelIdeal.Gen
open Idealize.ShloMosaic Idealize.ShloMosaic.TcCoe
open Idealize.ShloMosaic.VecWindow (window put)
open Cert.Reals Cert.Spec Cert.Windows Cert.Selection

/-- The copy after `k` chunks: every batch row's chunks done hold the memory. -/
theorem copy_at (m : Vec Ideal S64x16384 .f32) (C : Mem) (hm : ∀ j s, m (ix2 j s) = ((C s j : ℝ) : EReal)) (d : Vec Ideal S8x64x16384 .f32)
    (k : ℕ) (hk : k ≤ 8) (b : Fin 8) (j : Fin 64) (s : Fin 16384) (hs : s.val < 2048 * k) :
    Model.copy m d k (ix3 b j s) = ((C s j : ℝ) : EReal) := by
  induction k with
  | zero => omega
  | succ k ih =>
    have hlt : k < k0_t1_loop.trips := by rw [Model.t1_trips]; omega
    rw [Model.copy, dif_pos hlt]
    by_cases g : 2048 * k ≤ s.val
    · refine (put3_in _ _ (k0_off2_eq ⟨k, hlt⟩) _ b j ⟨s.val - 2048 * k, by omega⟩ b j s (by simp) (by simp)
        (by show s.val = 2048 * k + (s.val - 2048 * k); omega)).trans ?_
      pointwise [k0_pay1]
      exact (window2 m _ (k0_off1_eq ⟨k, hlt⟩) (k0_off1_inb ⟨k, hlt⟩) j ⟨s.val - 2048 * k, by omega⟩ j s (by simp)
        (by show s.val = 2048 * k + (s.val - 2048 * k); omega)).trans (hm j s)
    · exact (put3_out _ _ (k0_off2_eq ⟨k, hlt⟩) _ b j s (.inr (.inr fun h => g h.1))).trans (ih (by omega) (by omega))

/-- The mask after `k` chunks of the start. -/
theorem clear_at (d : Vec Ideal S8x16384 .f32) (k : ℕ) (hk : k ≤ 8) (b : Fin 8) (s : Fin 16384) (hs : s.val < 2048 * k) :
    Model.clear d k (ix2 b s) = ((0 : ℝ) : EReal) := by
  induction k with
  | zero => omega
  | succ k ih =>
    have hlt : k < k0_t1_loop.trips := by rw [Model.t1_trips]; omega
    rw [Model.clear, dif_pos hlt]
    by_cases g : 2048 * k ≤ s.val
    · refine (put2_in _ _ (k0_off3_eq ⟨k, hlt⟩) _ b ⟨s.val - 2048 * k, by omega⟩ b s (by simp)
        (by show s.val = 2048 * k + (s.val - 2048 * k); omega)).trans ?_
      pointwise [k0_pay2]
      rfl
    · exact (put2_out _ _ (k0_off3_eq ⟨k, hlt⟩) _ b s (.inr fun h => g h.1)).trans (ih (by omega) (by omega))

section Steps

variable (I : Model.Ins Ideal) (X : Fin 8 → Fin 16 → Fin 64 → ℝ) (P : Par)
  (hx : ∀ t b j, I.x (ix3 t b j) = ((X b t j : ℝ) : EReal))
  (H : ∀ t : Fin k0_t2_loop.trips, (∀ b j, I.xt t (ix3 0 b j) = ((X b ⟨t.val, Model.t2_trips ▸ t.isLt⟩ j : ℝ) : EReal)) →
    Holds t I (fun b => X b ⟨t.val, Model.t2_trips ▸ t.isLt⟩) P)

include hx in
theorem xt_at (t : Fin k0_t2_loop.trips) (b : Fin 8) (j : Fin 64) :
    I.xt t (ix3 0 b j) = ((X b ⟨t.val, Model.t2_trips ▸ t.isLt⟩ j : ℝ) : EReal) :=
  (window3 I.x _ (k0_off4_eq t) (k0_off4_inb t) 0 b j ⟨t.val, Model.t2_trips ▸ t.isLt⟩ b j (by simp) (by simp) (by simp)).trans (hx _ b j)

include hx H

/-- The state and the mask before step `k`. -/
theorem states_at (c : Vec Ideal S8x64x16384 .f32) (C : Mem) (hc : ∀ b j s, c (ix3 b j s) = ((C s j : ℝ) : EReal))
    (m : Vec Ideal S8x16384 .f32) (hm : ∀ b s, m (ix2 b s) = ((0 : ℝ) : EReal)) (k : ℕ) (hk : k ≤ 16) :
    (∀ b j s, (Model.states I c m k).1 (ix3 b j s) = ((mem P (X b) C k s j : ℝ) : EReal))
      ∧ ∀ b s, (Model.states I c m k).2 (ix2 b s) = ((0 : ℝ) : EReal) := by
  induction k with
  | zero => exact ⟨hc, hm⟩
  | succ k ih =>
    obtain ⟨i1, i2⟩ := ih (by omega)
    have hlt : k < k0_t2_loop.trips := by rw [Model.t2_trips]; omega
    rw [Model.states_succ I c m k hlt]
    have h := next_at ⟨k, hlt⟩ I _ P (Model.states I c m k).1 (fun b => mem P (X b) C k) (H ⟨k, hlt⟩ (xt_at I X hx ⟨k, hlt⟩)) i1
      (Model.states I c m k).2 i2
    refine ⟨fun b j s => (h.1 b j s).trans ?_, h.2⟩
    rw [mem_succ P (X b) C k (by omega)]

/-- The output before step `k`: the rows of the steps done. -/
theorem outs_at (c : Vec Ideal S8x64x16384 .f32) (C : Mem) (hc : ∀ b j s, c (ix3 b j s) = ((C s j : ℝ) : EReal))
    (m : Vec Ideal S8x16384 .f32) (hm : ∀ b s, m (ix2 b s) = ((0 : ℝ) : EReal)) (o : Vec Ideal S16x8x64 .f32) (k : ℕ) (hk : k ≤ 16)
    (t : Fin 16) (ht : t.val < k) (b : Fin 8) (d : Fin 64) :
    Model.outs I c m o k (ix3 t b d) = output P (X b) C t d := by
  induction k with
  | zero => omega
  | succ k ih =>
    have hlt : k < k0_t2_loop.trips := by rw [Model.t2_trips]; omega
    rw [Model.outs_succ I c m o k hlt]
    by_cases g : t.val = k
    · refine (put3_in _ _ (k0_off4_eq ⟨k, hlt⟩) _ 0 b d t b d (by simpa using g) (by simp) (by simp)).trans ?_
      have h := outRow_at ⟨k, hlt⟩ I _ P (Model.states I c m k).1 (fun b => mem P (X b) C k) (H ⟨k, hlt⟩ (xt_at I X hx ⟨k, hlt⟩))
        (states_at I X P hx H c C hc m hm k (by omega)).1 b d
      refine h.trans ?_
      obtain ⟨t, _⟩ := t
      obtain rfl : t = k := g
      rfl
    · refine (put3_out _ _ (k0_off4_eq ⟨k, hlt⟩) _ t b d (.inl ?_)).trans (ih (by omega) (by omega))
      show ¬ (k ≤ t.val ∧ t.val < k + 1)
      omega

/-- The whole body: its output holds the layer's. -/
theorem result_at (m : Vec Ideal S64x16384 .f32) (C : Mem) (hm : ∀ j s, m (ix2 j s) = ((C s j : ℝ) : EReal)) (t : Fin 16) (b : Fin 8) (d : Fin 64) :
    Model.result m I (ix3 t b d) = output P (X b) C t d := by
  unfold Model.result
  rw [Model.t1_trips, Model.t2_trips]
  exact outs_at I X P hx H _ C (fun b j s => copy_at m C hm _ 8 le_rfl b j s (by have := s.isLt; omega)) _
    (fun b s => clear_at _ 8 le_rfl b s (by have := s.isLt; omega)) _ 16 le_rfl t t.isLt b d

end Steps

end Cert.KernelIdeal.Read
-- ==== Proof.KHost.lean ====
/- The kernel's blocks over its arguments, and the result after the run. -/
module

public import proofs.«01_k».proof.Proof.KOuter
public import proofs.«01_k».proof.Proof.Args
public import proofs.«01_k».proof.Proof.KernelIdealRun
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Read

open Cert.KernelIdeal Cert.KernelIdeal.Gen Cert.KernelIdeal.Outer
open Idealize.ShloMosaic Idealize.ShloMosaic.TcCoe Idealize.SL.Sem
open Idealize.ShloMosaic.Pipeline (Dat)
open Cert.Reals Cert.Spec

variable (m : (ℓ : Loc nD τ sig) → Buf (Elt Ideal) ℓ) (c : Dev nD)

/-- Device `c`'s arguments read as `X`, `C` and `P`. -/
abbrev ArgsAt (X : Fin 8 → Fin 16 → Fin 64 → ℝ) (C : Mem) (P : Par) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) X C P

/-- Every window's block index at the one point (decided). -/
theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- Window 0's block is the whole of its array. -/
theorem whole0 : iblk m c 0 t0_0 = V m c main_v0 := by
  blk_ext! [iblk, idx t0_0]

/-- Window 1's block is the whole of its array. -/
theorem whole1 : iblk m c 1 t0_0 = V m c main_v1 := by
  blk_ext! [iblk, idx t0_0]

/-- Window 2's block is the whole of its array. -/
theorem whole2 : iblk m c 2 t0_0 = V m c main_v2 := by
  blk_ext! [iblk, idx t0_0]

/-- Window 3's block is the whole of its array. -/
theorem whole3 : iblk m c 3 t0_0 = V m c main_arg4 := by
  blk_ext! [iblk, idx t0_0]

/-- Window 4's block is the whole of its array. -/
theorem whole4 : iblk m c 4 t0_0 = V m c main_v3 := by
  blk_ext! [iblk, idx t0_0]

/-- Window 5's block is the whole of its array. -/
theorem whole5 : iblk m c 5 t0_0 = V m c main_v5 := by
  blk_ext! [iblk, idx t0_0]

/-- Window 6's block is the whole of its array. -/
theorem whole6 : iblk m c 6 t0_0 = V m c main_v7 := by
  blk_ext! [iblk, idx t0_0]

/-- Window 7's block is the whole of its array. -/
theorem whole7 : iblk m c 7 t0_0 = V m c main_v8 := by
  blk_ext! [iblk, idx t0_0]

/-- Window 8's block is the whole of its array. -/
theorem whole8 : iblk m c 8 t0_0 = V m c main_v9 := by
  blk_ext! [iblk, idx t0_0]

/-- Window 9's block is the whole of its array. -/
theorem whole9 : iblk m c 9 t0_0 = V m c main_v10 := by
  blk_ext! [iblk, idx t0_0]

/-- Window 10's block is the whole of its array. -/
theorem whole10 : iblk m c 10 t0_0 = V m c main_v11 := by
  blk_ext! [iblk, idx t0_0]

theorem entry_v0 : V m c main_v0 = transpose S16x8x64 [1, 0, 2] (m ((c : Thread nD τ).loc main_arg0)) transposes_S8x16x64_S16x8x64_1_0_2 := by
  show StableHlo.after hostOps0 (fun b => m (c, b)) (Proc.devRef .tc main_v0) = _
  after_results

theorem entry_v1 : V m c main_v1 = transpose S64x16384 [1, 0] (m ((c : Thread nD τ).loc main_arg1)) transposes_S16384x64_S64x16384_1_0 := by
  show StableHlo.after hostOps0 (fun b => m (c, b)) (Proc.devRef .tc main_v1) = _
  after_results

theorem entry_v2 : V m c main_v2 = transpose S64x64 [1, 0] (m ((c : Thread nD τ).loc main_arg2)) transposes_S64x64_S64x64_1_0 := by
  show StableHlo.after hostOps0 (fun b => m (c, b)) (Proc.devRef .tc main_v2) = _
  after_results

theorem entry_v3 : V m c main_v3 = transpose S64x64 [1, 0] (m ((c : Thread nD τ).loc main_arg6)) transposes_S64x64_S64x64_1_0 := by
  show StableHlo.after hostOps0 (fun b => m (c, b)) (Proc.devRef .tc main_v3) = _
  after_results

theorem entry_v5 : V m c main_v5 = transpose S64x64 [1, 0] (extractStridedSlice S64x64 ![0, 0] (m ((c : Thread nD τ).loc main_arg8)) slices_S64x128_S64x64_0_0) transposes_S64x64_S64x64_1_0 := by
  show StableHlo.after hostOps0 (fun b => m (c, b)) (Proc.devRef .tc main_v5) = _
  after_results

theorem entry_v7 : V m c main_v7 = transpose S64x64 [1, 0] (extractStridedSlice S64x64 ![0, 64] (m ((c : Thread nD τ).loc main_arg8)) slices_S64x128_S64x64_0_64) transposes_S64x64_S64x64_1_0 := by
  show StableHlo.after hostOps0 (fun b => m (c, b)) (Proc.devRef .tc main_v7) = _
  after_results

theorem entry_v8 : V m c main_v8 = shapeCast S1x64 (m ((c : Thread nD τ).loc main_arg3)) shapeCasts_S64_S1x64 := by
  show StableHlo.after hostOps0 (fun b => m (c, b)) (Proc.devRef .tc main_v8) = _
  after_results
  rfl

theorem entry_v9 : V m c main_v9 = shapeCast S1x64 (m ((c : Thread nD τ).loc main_arg5)) shapeCasts_S64_S1x64 := by
  show StableHlo.after hostOps0 (fun b => m (c, b)) (Proc.devRef .tc main_v9) = _
  after_results
  rfl

theorem entry_v10 : V m c main_v10 = shapeCast S1x64 (m ((c : Thread nD τ).loc main_arg7)) shapeCasts_S64_S1x64 := by
  show StableHlo.after hostOps0 (fun b => m (c, b)) (Proc.devRef .tc main_v10) = _
  after_results
  rfl

theorem entry_v11 : V m c main_v11 = shapeCast S1x64 (m ((c : Thread nD τ).loc main_arg9)) shapeCasts_S64_S1x64 := by
  show StableHlo.after hostOps0 (fun b => m (c, b)) (Proc.devRef .tc main_v11) = _
  after_results
  rfl

theorem blk0 (t : Fin 16) (b : Fin 8) (j : Fin 64) : iblk m c 0 t0_0 (ix3 t b j) = m ((c : Thread nD τ).loc main_arg0) (ix3 b t j) := by
  rw [whole0, entry_v0]
  pointwise

theorem blk1 (j : Fin 64) (s : Fin 16384) : iblk m c 1 t0_0 (ix2 j s) = m ((c : Thread nD τ).loc main_arg1) (ix2 s j) := by
  rw [whole1, entry_v1]
  pointwise

theorem blk2 (i d : Fin 64) : iblk m c 2 t0_0 (ix2 i d) = m ((c : Thread nD τ).loc main_arg2) (ix2 d i) := by
  rw [whole2, entry_v2]
  pointwise

theorem blk3 (d j : Fin 64) : iblk m c 3 t0_0 (ix2 d j) = m ((c : Thread nD τ).loc main_arg4) (ix2 d j) := by
  rw [whole3, V_main_arg4]

theorem blk4 (j d : Fin 64) : iblk m c 4 t0_0 (ix2 j d) = m ((c : Thread nD τ).loc main_arg6) (ix2 d j) := by
  rw [whole4, entry_v3]
  pointwise

theorem blk5 (j d : Fin 64) : iblk m c 5 t0_0 (ix2 j d) = m ((c : Thread nD τ).loc main_arg8) (ix2 d ⟨j.val, by omega⟩) := by
  rw [whole5, entry_v5]
  pointwise

theorem blk6 (j d : Fin 64) : iblk m c 6 t0_0 (ix2 j d) = m ((c : Thread nD τ).loc main_arg8) (ix2 d ⟨64 + j.val, by omega⟩) := by
  rw [whole6, entry_v7]
  pointwise

theorem blk7 (d : Fin 64) : iblk m c 7 t0_0 (ix2 0 d) = m ((c : Thread nD τ).loc main_arg3) (ix1 d) := by
  rw [whole7, entry_v8]
  pointwise

theorem blk8 (d : Fin 64) : iblk m c 8 t0_0 (ix2 0 d) = m ((c : Thread nD τ).loc main_arg5) (ix1 d) := by
  rw [whole8, entry_v9]
  pointwise

theorem blk9 (d : Fin 64) : iblk m c 9 t0_0 (ix2 0 d) = m ((c : Thread nD τ).loc main_arg7) (ix1 d) := by
  rw [whole9, entry_v10]
  pointwise

theorem blk10 (d : Fin 64) : iblk m c 10 t0_0 (ix2 0 d) = m ((c : Thread nD τ).loc main_arg9) (ix1 d) := by
  rw [whole10, entry_v11]
  pointwise

/-- The layer's small operands, over the arguments. -/
abbrev insAt : Model.Ins Ideal :=
  ⟨iblk m c 0 t0_0, iblk m c 2 t0_0, iblk m c 3 t0_0, iblk m c 4 t0_0, iblk m c 5 t0_0, iblk m c 6 t0_0, iblk m c 7 t0_0, iblk m c 8 t0_0,
    iblk m c 9 t0_0, iblk m c 10 t0_0⟩

theorem holds_at {X : Fin 8 → Fin 16 → Fin 64 → ℝ} {C : Mem} {P : Par} (A : ArgsAt m c X C P) (t : Fin k0_t2_loop.trips)
    (hx : ∀ b j, (insAt m c).xt t (ix3 0 b j) = ((X b ⟨t.val, Model.t2_trips ▸ t.isLt⟩ j : ℝ) : EReal)) :
    Holds t (insAt m c) (fun b => X b ⟨t.val, Model.t2_trips ▸ t.isLt⟩) P where
  x := hx
  wq i d := (blk2 m c i d).trans (A.wq d i)
  bq d := (blk7 m c d).trans (A.bq d)
  wk d j := (blk3 m c d j).trans (A.wk d j)
  bk d := (blk8 m c d).trans (A.bk d)
  wv j d := (blk4 m c j d).trans (A.wv d j)
  bv d := (blk9 m c d).trans (A.bv d)
  u1 j d := (blk5 m c j d).trans (A.u1 d j)
  u2 j d := (blk6 m c j d).trans (A.u2 d j)
  bu d := (blk10 m c d).trans (A.bu d)

/-- The output block holds the layer's outputs. -/
theorem outAt_at {X : Fin 8 → Fin 16 → Fin 64 → ℝ} {C : Mem} {P : Par} (A : ArgsAt m c X C P) (t : Fin 16) (b : Fin 8) (d : Fin 64) :
    outAt m c t0_0 (ix3 t b d) = output P (X b) C t d :=
  result_at (insAt m c) X P (fun t b j => (blk0 m c t b j).trans (A.x b t j)) (holds_at m c A) (iblk m c 1 t0_0) C
    (fun j s => (blk1 m c j s).trans (A.c s j)) t b d

/-- The output array after the run is that block. -/
theorem final : (dats m 0 c).arrAt 11 cfg0.N = outAt m c t0_0 := by
  refine (dats m 0 c).arrAt_eq_of_after_last 11 t0_0 (by decide +kernel) _ fun j => ?_
  blk_simp
  rw [after0_11]

/-- The result, transposed back. -/
theorem result_eq {X : Fin 8 → Fin 16 → Fin 64 → ℝ} {C : Mem} {P : Par} (A : ArgsAt m c X C P) :
    transpose S8x16x64 [1, 0, 2] (outAt m c t0_0) transposes_S16x8x64_S8x16x64_1_0_2 = value X C P :=
  eq_value fun b t d => by
    refine Eq.trans ?_ (outAt_at m c A t b d)
    pointwise

/-- What the line after the region leaves in the result. -/
theorem tail_eq : Pipeline.afterTail₀ cfgs (dats m) 0 (V0 m) [hostOps1] c main_v13
    = transpose S8x16x64 [1, 0, 2] (outAt m c t0_0) transposes_S16x8x64_S8x16x64_1_0_2 := by
  unfold Pipeline.afterTail₀
  show StableHlo.after hostOps1 _ (Proc.devRef .tc main_v13) = _
  rw [StableHlo.after_cons, StableHlo.after_nil, StableHlo.unary_result]
  exact congrArg (fun v => transpose S8x16x64 [1, 0, 2] v transposes_S16x8x64_S8x16x64_1_0_2)
    ((Pipeline.withArrays_arr (win := spec0) (by decide) c (V0 m c) _ (11 : Fin cfg0.W)).trans (final m c))

variable (g : Dev nD → PrngReg)

/-- From arguments so read every run ends with the layer's outputs and the arguments as they were. -/
theorem kernel_run (X : Dev nD → Fin 8 → Fin 16 → Fin 64 → ℝ) (C : Dev nD → Mem) (P : Dev nD → Par) (A : ∀ c, ArgsAt m c (X c) (C c) (P c)) :
    θ_run (defs (F := Ideal)) (onTc (τ := τ) (main (F := Ideal))) ⟨m, fun _ => 0, g⟩ (fun r => ∀ c : Dev nD,
      r.2.mem ((c.tc : Thread nD τ).loc main_v13) = value (X c) (C c) (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have h : θ_run (defs (F := Ideal)) (onTc (τ := τ) (main (F := Ideal))) (s₀ m g)
      (Pipeline.FramePost cfgs (dats m) 0 (Pipeline.afterTail₀ cfgs (dats m) 0 (V0 m) [hostOps1])) :=
    (θ_run _ _ _).mono (fun _ h => h.1) (run_main m g)
  run_from h
  · rw [tail_eq]
    exact result_eq m c (A c)
  exacts [W_main_arg0 m _ c, W_main_arg1 m _ c, W_main_arg2 m _ c, W_main_arg3 m _ c, W_main_arg5 m _ c, W_main_arg6 m _ c,
    W_main_arg7 m _ c, W_main_arg8 m _ c, W_main_arg9 m _ c]

end Cert.KernelIdeal.Read
-- ==== Proof.RPay.lean ====
/- The reference's step read at an index, when the carried arrays hold the layer's: the softmax and the gate. -/
module

public import proofs.«01_k».proof.Proof.Spec
public import proofs.«01_k».proof.Proof.Reals
public import proofs.«01_k».proof.Proof.Selection
public import proofs.«01_k».proof.Proof.Gen.ReferenceIdeal.Run
public import Idealize.ShloMosaic.Lib.Pointwise
public import Idealize.ShloMosaic.Lib.DynamicIndex
public import Idealize.ShloMosaic.Lib.IdealHost

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe
open Cert.Reals Cert.Spec Cert.Selection

/-- The greatest entry of each row. -/
def rowMax (Y : Vec Ideal S8x16384 .f32) : Vec Ideal S8 .f32 :=
  Host.reduce (FloatOps.maximumf (F := Ideal) (φ := .f32)) Y (constant (F := Ideal) S_ .f32 0xFF800000#32) reducesTo_S8x16384_S8_d1 h_S_

theorem rowMax_at (Y : Vec Ideal S8x16384 .f32) (f : Fin 16384 → ℝ) (b : Fin 8) (h : ∀ m, Y (ix2 b m) = ((f m : ℝ) : EReal)) :
    rowMax Y (ix1 b) = ((top f : ℝ) : EReal) := by
  unfold rowMax
  have hr : S8x16384.Reduces [1] S8 := by decide
  rw [Host.reduce_eq_fold_single _ _ _ reducesTo_S8x16384_S8_d1 hr h_S_ (ix1 b)]
  have e : Y ∘ hr.lift (ix1 b) = fun m : Fin 16384 => ((f m : ℝ) : EReal) := by
    funext m
    rw [← h m]
    exact congrArg Y (by funext a; fin_cases a <;> rfl)
  refine Eq.trans ?_ (fold_max f)
  rw [e]
  show Finset.univ.fold max (Ideal.ofBits .f32 0xFF800000#32) _ = _
  rw [ofBits_negInf]
  rfl

/-- The carried arrays before step `t`, read as `X`, `P` and `C`. -/
structure Carried (V : Valuation τ sig (Elt Ideal)) (t : Fin 16) (X : Fin 8 → Fin 16 → Fin 64 → ℝ) (P : Par) (C : Fin 8 → Mem) : Prop where
  x : ∀ t b j, (V (Proc.devRef .tc main_v6_0) : Vec Ideal S16x8x64 .f32) (ix3 t b j) = ((X b t j : ℝ) : EReal)
  wq : ∀ d j, (V (Proc.devRef .tc main_v6_1) : Vec Ideal S64x64 .f32) (ix2 d j) = ((P.wq d j : ℝ) : EReal)
  bq : ∀ d, (V (Proc.devRef .tc main_v6_2) : Vec Ideal S64 .f32) (ix1 d) = ((P.bq d : ℝ) : EReal)
  wk : ∀ d j, (V (Proc.devRef .tc main_v6_3) : Vec Ideal S64x64 .f32) (ix2 d j) = ((P.wk d j : ℝ) : EReal)
  bk : ∀ d, (V (Proc.devRef .tc main_v6_4) : Vec Ideal S64 .f32) (ix1 d) = ((P.bk d : ℝ) : EReal)
  wv : ∀ d j, (V (Proc.devRef .tc main_v6_5) : Vec Ideal S64x64 .f32) (ix2 d j) = ((P.wv d j : ℝ) : EReal)
  bv : ∀ d, (V (Proc.devRef .tc main_v6_6) : Vec Ideal S64 .f32) (ix1 d) = P.bv d
  u1 : ∀ d (j : Fin 64), (V (Proc.devRef .tc main_v6_7) : Vec Ideal S64x128 .f32) (ix2 d ⟨j.val, by omega⟩) = P.u1 d j
  u2 : ∀ d (j : Fin 64), (V (Proc.devRef .tc main_v6_7) : Vec Ideal S64x128 .f32) (ix2 d ⟨64 + j.val, by omega⟩) = P.u2 d j
  bu : ∀ d, (V (Proc.devRef .tc main_v6_8) : Vec Ideal S64 .f32) (ix1 d) = P.bu d
  row : ∀ b : Fin 8, (V (Proc.devRef .tc main_v6_9) : IVec S8x1 32) (ix2 b 0) = BitVec.ofNat 32 b.val
  ctr : (V (Proc.devRef .tc main_v6_10) : IVec S_ 32) = fun _ => BitVec.ofNat 32 t.val
  c : ∀ b m j, (V (Proc.devRef .tc main_v6_11) : Vec Ideal S8x16384x64 .f32) (ix3 b m j) = ((C b m j : ℝ) : EReal)

variable (V : Valuation τ sig (Elt Ideal)) (t : Fin 16) (X : Fin 8 → Fin 16 → Fin 64 → ℝ) (P : Par) (C : Fin 8 → Mem) (H : Carried V t X P C)

/-- Where the step's row starts, in words. -/
theorem start_at (k : Fin 3) (h : (V (Proc.devRef .tc main_v6_10) : IVec S_ 32) = fun _ => BitVec.ofNat 32 t.val) :
    (((![V (Proc.devRef .tc main_v6_10), constantI S_ 32 0#32, constantI S_ 32 0#32] : Fin 3 → IVec S_ 32) k) (Shape.Idx.first h_S_)).toInt
      = ((![t.val, 0, 0] : Fin 3 → ℕ) k : Int) := by
  fin_cases k
  · show ((V (Proc.devRef .tc main_v6_10) : IVec S_ 32) _).toInt = _
    rw [h]
    exact toInt_ofNat_of_lt (by have := t.isLt; omega)
  · rfl
  · rfl

include H

theorem v8_at (b : Fin 8) (j : Fin 64) : res_main_while0b_v8 V (ix2 b j) = ((X b t j : ℝ) : EReal) := by
  have hoff : S16x8x64.Slices ![t.val, 0, 0] S1x8x64 := ⟨rfl, fun a => by have := t.isLt; fin_cases a <;> simp <;> omega⟩
  unfold res_main_while0b_v8
  rw [Host.dynamicSlice_eq_extractStridedSlice S1x8x64 _ _ ![t.val, 0, 0] _ hoff (fun a => start_at V t a H.ctr)]
  generalize hx : (V (Proc.devRef .tc main_v6_0)) = x
  have e : ∀ t b j, (x : Vec Ideal S16x8x64 .f32) (ix3 t b j) = ((X b t j : ℝ) : EReal) := fun t b j => hx ▸ H.x t b j
  clear hx
  revert x
  intro (x : Vec Ideal S16x8x64 .f32) e
  pointwise
  rw [← e]

theorem v26_at (b : Fin 8) (m : Fin 16384) : res_main_while0b_v26 V (ix2 b m) = ((logit P (X b t) (C b) m : ℝ) : EReal) := by
  unfold res_main_while0b_v26
  pointwise
  simp only [v8_at V t X P C H, H.wq, H.bq, H.wk, H.bk, H.c, ← EReal.coe_mul, coe_sum, ← EReal.coe_add]
  rw [logit_keys]
  exact (congrArg _ ofBits_eight).trans (div_coe _ (by norm_num))

theorem v33_at (b : Fin 8) (m : Fin 16384) : res_main_while0b_v33 V (ix2 b m) = ((weight P (X b t) (C b) m : ℝ) : EReal) := by
  unfold res_main_while0b_v33
  have h := rowMax_at (res_main_while0b_v26 V) _ b (v26_at V t X P C H b)
  unfold rowMax at h
  generalize (Host.reduce (FloatOps.maximumf (F := Ideal) (φ := .f32)) _ _ reducesTo_S8x16384_S8_d1 h_S_ : Vec Ideal S8 .f32) = M at h ⊢
  pointwise
  rw [v26_at V t X P C H, h]
  have e : max (Ideal.ofBits .f32 0xFF800000#32) ((top (logit P (X b t) (C b)) : ℝ) : EReal) = ((top (logit P (X b t) (C b)) : ℝ) : EReal) := by
    rw [ofBits_negInf]
    exact max_eq_right bot_le
  refine (congrArg (fun z => Ideal.exp (_ - z)) e).trans ?_
  rw [← EReal.coe_sub, Ideal.exp_coe]
  rfl

theorem v37_at (b : Fin 8) (m : Fin 16384) :
    res_main_while0b_v37 V (ix2 b m) = ((weight P (X b t) (C b) m / ∑ k, weight P (X b t) (C b) k : ℝ) : EReal) := by
  unfold res_main_while0b_v37
  pointwise
  simp only [v33_at V t X P C H, coe_sum]
  exact div_coe _ (sum_weight_pos P _ _).ne'

theorem v38_at (b : Fin 8) (d : Fin 64) : res_main_while0b_v38 V (ix2 b d) = readout P (X b t) (C b) d := by
  unfold res_main_while0b_v38
  pointwise
  simp only [v37_at V t X P C H, H.wv, H.bv, H.c, ← EReal.coe_mul, coe_sum]
  rw [readout_values]

theorem v50_at (b : Fin 8) (d : Fin 64) : res_main_while0b_v50 V (ix2 b d) = ((gate P (X b t) (C b) d : ℝ) : EReal) := by
  unfold res_main_while0b_v50
  pointwise
  simp only [v8_at V t X P C H, v38_at V t X P C H, H.u1, H.u2, H.bu]
  exact (gate_coe P (X b t) (C b) d).symm

end Cert.ReferenceIdeal.Read
-- ==== Proof.RPick.lean ====
/- The reference's choice of slots: the positions `top_k` returns, the index pairs made of them, and the slots that the gather reads and the scatter writes. -/
module

public import proofs.«01_k».proof.Proof.Selection
public import proofs.«01_k».proof.Proof.Reals
public import proofs.«01_k».proof.Proof.Gen.ReferenceIdeal.Run
public import Idealize.ShloMosaic.Lib.Pointwise
public import Idealize.ShloMosaic.Lib.IdealHost
public import Idealize.ShloMosaic.Lib.WordCmp
public import Idealize.ShloMosaic.Lib.DynamicIndex
public import Idealize.ShloMosaic.Lib.Routing.OpsSet

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe
open Cert.Reals Cert.Selection

/-- The `r`-th largest position of a row of reals, the earlier one of two equal values first. -/
def pick (e : Fin 16384 → ℝ) (r : Fin 8) : Fin 16384 := sortedFrom (fun k m => decide (e m < e k)) (r.castLE (by norm_num))

theorem pick_iff (e : Fin 16384 → ℝ) (m : Fin 16384) : (∃ r, pick e r = m) ↔ rank e m < 8 := exists_sortedFrom_iff e (by norm_num) m

theorem topK_at (Y : Vec Ideal S8x16384 .f32) (e : Fin 16384 → ℝ) (b : Fin 8) (h : ∀ m, Y (ix2 b m) = ((e m : ℝ) : EReal)) (r : Fin 8) :
    (Host.topK S8x8 1 (FloatOps.cmpfTotal (F := Ideal) (φ := .f32) .gt) Y sliceFits_S8x16384_S8x8).2 (ix2 b r) = BitVec.ofNat 32 (pick e r).val := by
  unfold Host.topK Host.sort2
  pointwise
  have a : ∀ (c k : Fin 16384), (ix2 b c : S8x16384.Idx).along 1 k = ix2 b k := by
    intro c k
    funext x
    fin_cases x <;> rfl
  have hc : ∀ c : Fin 16384, (fun k k' : Fin 16384 => FloatOps.cmpfTotal (F := Ideal) (φ := .f32) CmpDirection.gt (Y ((ix2 b c : S8x16384.Idx).along 1 k)) (Y ((ix2 b c : S8x16384.Idx).along 1 k')) == 1#1)
      = fun k m => decide (e m < e k) := by
    intro c
    funext k m
    rw [a, a, h, h]
    show ((BitVec.ofBool (decide (((e m : ℝ) : EReal) < ((e k : ℝ) : EReal)))) == 1#1) = _
    rw [show decide (((e m : ℝ) : EReal) < ((e k : ℝ) : EReal)) = decide (e m < e k) from decide_eq_decide.2 EReal.coe_lt_coe_iff]
    cases decide (e m < e k) <;> rfl
  refine (congrArg (fun i : S8x16384.Idx => BitVec.ofNat 32 (i 1).val) (a _ _)).trans ?_
  exact congrArg (fun f : Fin 16384 → Fin 16384 → Bool => BitVec.ofNat 32 (sortedFrom f (⟨r.val, by omega⟩ : Fin 16384)).val) (hc _)

/-- Component `0` of each index pair is the row, component `1` the slot. -/
def Pairs (idx : IVec S8x8x2 32) (p : Fin 8 → Fin 8 → Fin 16384) : Prop :=
  ∀ b r, (idx (ix3 b r 0)).toInt = (b.val : Int) ∧ (idx (ix3 b r 1)).toInt = ((p b r).val : Int)

/-- The index pairs as the reference builds them from the rows' numbers and the chosen positions. -/
def pairs (row : IVec S8x1 32) (q : IVec S8x8 32) : IVec S8x8x2 32 :=
  concatenate S8x8x2 2 [⟨S8x8x1, (broadcastInDim S8x8x1 ![0, 1] bcast_S8x8_S8x8x1_0_1 (broadcastInDim S8x8 ![0, 1] bcast_S8x1_S8x8_0_1 (select (cmpi .slt row (broadcastInDim S8x1 ![] bcast_S_S8x1 (constantI S_ 32 0#32))) (addi row (broadcastInDim S8x1 ![] bcast_S_S8x1 (constantI S_ 32 8#32))) row)))⟩, ⟨S8x8x1, (broadcastInDim S8x8x1 ![0, 1] bcast_S8x8_S8x8x1_0_1 (select (cmpi .slt q (broadcastInDim S8x8 ![] bcast_S_S8x8 (constantI S_ 32 0#32))) (addi q (broadcastInDim S8x8 ![] bcast_S_S8x8 (constantI S_ 32 16384#32))) q))⟩] concatenates_S8x8x1_S8x8x1_S8x8x2_d2

theorem pairs_at (row : IVec S8x1 32) (q : IVec S8x8 32) (p : Fin 8 → Fin 8 → Fin 16384)
    (hrow : ∀ b : Fin 8, row (ix2 b 0) = BitVec.ofNat 32 b.val) (hq : ∀ b r, q (ix2 b r) = BitVec.ofNat 32 (p b r).val) : Pairs (pairs row q) p := by
  intro b r
  constructor
  · unfold pairs
    pointwise
    rw [hrow, Routing.wrap_of_lt _ _ (by rw [BitVec.toNat_ofNat]; omega)]
    exact WordCmp.toInt_ofNat_of_lt (by omega)
  · unfold pairs
    pointwise
    rw [hq, Routing.wrap_of_lt _ _ (by rw [BitVec.toNat_ofNat]; omega)]
    exact WordCmp.toInt_ofNat_of_lt (by omega)

variable (idx : IVec S8x8x2 32) (p : Fin 8 → Fin 8 → Fin 16384) (hp : Pairs idx p)
include hp

theorem gather_at (x : Vec Ideal S8x16384x64 .f32) (b r : Fin 8) (j : Fin 64) :
    Host.gather gather_S8x16384x64_S8x8x2_S8x8x64_2_01_n_n_01_2_1164 x idx (ix3 b r j) = x (ix3 b (p b r) j) := by
  have s0 : idx (gather_S8x16384x64_S8x8x2_S8x8x64_2_01_n_n_01_2_1164.siIdx (ix3 b r j) (0 : Fin 2)) = idx (ix3 b r 0) :=
    congrArg idx (by funext a; fin_cases a <;> rfl)
  have s1 : idx (gather_S8x16384x64_S8x8x2_S8x8x64_2_01_n_n_01_2_1164.siIdx (ix3 b r j) (1 : Fin 2)) = idx (ix3 b r 1) :=
    congrArg idx (by funext a; fin_cases a <;> rfl)
  have e0 : gather_S8x16384x64_S8x8x2_S8x8x64_2_01_n_n_01_2_1164.start (ix3 b r j) idx 0 = b.val := by
    show min (idx (gather_S8x16384x64_S8x8x2_S8x8x64_2_01_n_n_01_2_1164.siIdx (ix3 b r j) (0 : Fin 2))).toInt.toNat (8 - 1) = _
    rw [s0, (hp b r).1]
    omega
  have e1 : gather_S8x16384x64_S8x8x2_S8x8x64_2_01_n_n_01_2_1164.start (ix3 b r j) idx 1 = (p b r).val := by
    show min (idx (gather_S8x16384x64_S8x8x2_S8x8x64_2_01_n_n_01_2_1164.siIdx (ix3 b r j) (1 : Fin 2))).toInt.toNat (16384 - 1) = _
    rw [s1, (hp b r).2]
    omega
  unfold Host.gather
  refine congrArg x ?_
  funext a
  apply Fin.ext
  fin_cases a
  · exact e0
  · exact e1
  · show 0 + 0 + j.val = j.val
    omega

theorem lands (b r : Fin 8) (j : Fin 64) (b' : Fin 8) (m : Fin 16384) (j' : Fin 64) :
    scatter_S8x16384x64_S8x8x2_S8x8x64_2_01_01_2.resultIdx? (ix3 b r j) idx = some (ix3 b' m j') ↔ b = b' ∧ p b r = m ∧ j = j' := by
  have s0 : idx (scatter_S8x16384x64_S8x8x2_S8x8x64_2_01_01_2.siIdx (ix3 b r j) (0 : Fin 2)) = idx (ix3 b r 0) :=
    congrArg idx (by funext a; fin_cases a <;> rfl)
  have s1 : idx (scatter_S8x16384x64_S8x8x2_S8x8x64_2_01_01_2.siIdx (ix3 b r j) (1 : Fin 2)) = idx (ix3 b r 1) :=
    congrArg idx (by funext a; fin_cases a <;> rfl)
  have e0 : scatter_S8x16384x64_S8x8x2_S8x8x64_2_01_01_2.start (ix3 b r j) idx 0 = (b.val : Int) := (congrArg BitVec.toInt s0).trans (hp b r).1
  have e1 : scatter_S8x16384x64_S8x8x2_S8x8x64_2_01_01_2.start (ix3 b r j) idx 1 = ((p b r).val : Int) := (congrArg BitVec.toInt s1).trans (hp b r).2
  rw [Routing.resultIdx?_eq_some]
  constructor
  · intro h
    have h0 := h 0
    have h1 := h 1
    have h2 := h 2
    rw [e0] at h0
    rw [e1] at h1
    change (b.val : Int) + ((0 : Nat) : Int) = (b'.val : Int) at h0
    change ((p b r).val : Int) + ((0 : Nat) : Int) = (m.val : Int) at h1
    change (0 : Int) + (j.val : Int) = (j'.val : Int) at h2
    exact ⟨Fin.ext (by omega), Fin.ext (by omega), Fin.ext (by omega)⟩
  · rintro ⟨rfl, rfl, rfl⟩ a
    fin_cases a
    · exact (congrArg (· + ((0 : Nat) : Int)) e0).trans (Int.add_zero _)
    · exact (congrArg (· + ((0 : Nat) : Int)) e1).trans (Int.add_zero _)
    · exact Int.zero_add _

/-- The scatter at a slot: the common value of the updates that name it. -/
theorem scatter_at (x : Vec Ideal S8x16384x64 .f32) (u : Vec Ideal S8x8x64 .f32) (b : Fin 8) (m : Fin 16384) (j : Fin 64) (v : EReal)
    (hv : ∀ r, p b r = m → u (ix3 b r j) = v) :
    ((∃ r, p b r = m) → Host.scatter scatter_S8x16384x64_S8x8x2_S8x8x64_2_01_01_2 (fun _ b => b) x idx u (ix3 b m j) = v)
      ∧ ((¬ ∃ r, p b r = m) → Host.scatter scatter_S8x16384x64_S8x8x2_S8x8x64_2_01_01_2 (fun _ b => b) x idx u (ix3 b m j) = x (ix3 b m j)) := by
  constructor
  · rintro ⟨r, hr⟩
    refine Routing.scatter_set_hit _ x idx u _ v (fun k hk => ?_) (ix3 b r j) ((lands idx p hp b r j b m j).2 ⟨rfl, hr, rfl⟩)
    rw [eq_ix3 k] at hk ⊢
    obtain ⟨h0, h1, h2⟩ := (lands idx p hp _ _ _ b m j).1 hk
    rw [h0] at h1 ⊢
    rw [h2]
    exact hv _ h1
  · intro hno
    refine Routing.scatter_set_miss _ x idx u _ (fun k hk => hno ?_)
    rw [eq_ix3 k] at hk
    obtain ⟨h0, h1, h2⟩ := (lands idx p hp _ _ _ b m j).1 hk
    rw [h0] at h1
    exact ⟨_, h1⟩

open Classical in
theorem scatter_eq (x : Vec Ideal S8x16384x64 .f32) (u : Vec Ideal S8x8x64 .f32) (b : Fin 8) (m : Fin 16384) (j : Fin 64) (v : EReal)
    (hv : ∀ r, p b r = m → u (ix3 b r j) = v) :
    Host.scatter scatter_S8x16384x64_S8x8x2_S8x8x64_2_01_01_2 (fun _ b => b) x idx u (ix3 b m j) = if ∃ r, p b r = m then v else x (ix3 b m j) := by
  obtain ⟨hit, miss⟩ := scatter_at idx p hp x u b m j v hv
  by_cases h : ∃ r, p b r = m
  · rw [if_pos h]
    exact hit h
  · rw [if_neg h]
    exact miss h

end Cert.ReferenceIdeal.Read
-- ==== Proof.RStep.lean ====
/- One step of the reference on the carried arrays: the memory, the outputs and the counter. -/
module

public import proofs.«01_k».proof.Proof.RPay
public import proofs.«01_k».proof.Proof.RPick

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe
open Cert.Reals Cert.Spec Cert.Selection

variable (V : Valuation τ sig (Elt Ideal)) (t : Fin 16) (X : Fin 8 → Fin 16 → Fin 64 → ℝ) (P : Par) (C : Fin 8 → Mem) (H : Carried V t X P C)
include H

/-- The eight slots of each row that the step writes. -/
theorem indices_at (b r : Fin 8) :
    res_main_while0b_indices V (ix2 b r)
      = BitVec.ofNat 32 (pick (fun m => weight P (X b t) (C b) m / ∑ k, weight P (X b t) (C b) k) r).val := by
  unfold res_main_while0b_indices
  exact topK_at (res_main_while0b_v37 V) _ b (v37_at V t X P C H b) r

theorem chosen (b : Fin 8) (m : Fin 16384) :
    (∃ r, pick (fun m => weight P (X b t) (C b) m / ∑ k, weight P (X b t) (C b) k) r = m) ↔ rank (weight P (X b t) (C b)) m < 8 := by
  rw [pick_iff, rank_div _ (sum_weight_pos P _ _)]

/-- The memory after the step. -/
theorem mem_at (b : Fin 8) (m : Fin 16384) (j : Fin 64) :
    step_main_v6_11 V (ix3 b m j) = ((step P (X b t) (C b) m j : ℝ) : EReal) := by
  have hp := pairs_at (V (Proc.devRef .tc main_v6_9)) (res_main_while0b_indices V) _ H.row (indices_at V t X P C H)
  have h50 := v50_at V t X P C H
  have h8 := v8_at V t X P C H
  unfold step_main_v6_11
  generalize hI : pairs (V (Proc.devRef .tc main_v6_9)) (res_main_while0b_indices V) = I at hp
  unfold pairs at hI
  rw [hI, id_eq]
  generalize res_main_while0b_v50 V = g at h50 ⊢
  generalize res_main_while0b_v8 V = x at h8 ⊢
  refine (scatter_eq I _ hp _ _ b m j (((1 - gate P (X b t) (C b) j) * C b m j + gate P (X b t) (C b) j * X b t j : ℝ) : EReal) ?_).trans ?_
  · intro r hr
    have hg : Host.gather gather_S8x16384x64_S8x8x2_S8x8x64_2_01_n_n_01_2_1164 (V (Proc.devRef .tc main_v6_11) : Vec Ideal S8x16384x64 .f32) I (ix3 b r j)
        = ((C b m j : ℝ) : EReal) := by
      rw [gather_at I _ hp, hr]
      exact H.c b m j
    pointwise
    rw [h50, h8]
    refine (congrArg (fun z : EReal => (1 - ((gate P (X b t) (C b) j : ℝ) : EReal)) * z + _) hg).trans ?_
    rw [← EReal.coe_one, ← EReal.coe_sub, ← EReal.coe_mul, ← EReal.coe_mul, ← EReal.coe_add]
  · rw [step_blend]
    by_cases h : rank (weight P (X b t) (C b)) m < 8
    · rw [if_pos h, if_pos ((chosen V t X P C H b m).2 h)]
    · rw [if_neg h, if_neg fun q => h ((chosen V t X P C H b m).1 q)]
      exact H.c b m j

/-- The outputs after the step: row `t` is the read-out, every other row stands. -/
theorem outs_at (s : Fin 16) (b : Fin 8) (d : Fin 64) :
    (step_main_v6_12 V : Vec Ideal S16x8x64 .f32) (ix3 s b d)
      = if s = t then readout P (X b t) (C b) d else (V (Proc.devRef .tc main_v6_12) : Vec Ideal S16x8x64 .f32) (ix3 s b d) := by
  unfold step_main_v6_12
  have hs : S16x8x64.Slices ![t.val, 0, 0] S1x8x64 := ⟨rfl, by
    have := t.isLt
    intro a
    fin_cases a
    · show t.val + 1 ≤ 16
      omega
    · show 0 + 8 ≤ 8
      omega
    · show 0 + 64 ≤ 64
      omega⟩
  have e := WordCmp.dynamicUpdateSlice_eq_update (V (Proc.devRef .tc main_v6_12) : Vec Ideal S16x8x64 .f32)
    (broadcastInDim S1x8x64 ![1, 2] bcast_S8x64_S1x8x64_1_2 (res_main_while0b_v38 V))
    (fun k => (((![V (Proc.devRef .tc main_v6_10), constantI S_ 32 0#32, constantI S_ 32 0#32] : Fin 3 → (⟨S_, .i32⟩ : BufTy).Contents (Elt Ideal))) k (Shape.Idx.first h_S_)).toInt)
    updateFits_S16x8x64_S1x8x64 ![t.val, 0, 0] hs (by
      intro a
      fin_cases a
      · exact (congrArg (fun z : IVec S_ 32 => (z (Shape.Idx.first h_S_)).toInt) H.ctr).trans (WordCmp.toInt_ofNat_of_lt (by omega))
      · rfl
      · rfl)
  refine (congrFun e (ix3 s b d)).trans ?_
  have h38 := v38_at V t X P C H
  generalize res_main_while0b_v38 V = R at h38 ⊢
  pointwise
  rw [h38]
  refine dite_eq_ite.trans (if_congr ?_ rfl rfl)
  constructor
  · intro h
    have h0 := h 0
    change t.val ≤ s.val ∧ s.val < t.val + 1 at h0
    exact Fin.ext (by omega)
  · rintro rfl a
    fin_cases a
    · show s.val ≤ s.val ∧ s.val < s.val + 1
      omega
    · show 0 ≤ b.val ∧ b.val < 0 + 8
      omega
    · show 0 ≤ d.val ∧ d.val < 0 + 64
      omega

theorem ctr_next : (step_main_v6_10 V : IVec S_ 32) = fun _ => BitVec.ofNat 32 (t.val + 1) := by
  unfold step_main_v6_10
  have h := H.ctr
  generalize (V (Proc.devRef .tc main_v6_10) : IVec S_ 32) = z at h ⊢
  subst h
  funext i
  exact BitVec.ofNat_add_ofNat t.val 1

end Cert.ReferenceIdeal.Read
-- ==== Proof.RHost.lean ====
/- The reference's loop over its arguments, and the result after the run. -/
module

public import proofs.«01_k».proof.Proof.RStep
public import proofs.«01_k».proof.Proof.Args
public import Idealize.ShloMosaic.Lib.Pointwise

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem Idealize.ShloMosaic.StableHlo
open Cert.Reals Cert.Spec

/-- A step takes the carried arrays before step `t` to those before step `t + 1`. -/
theorem Carried.next {V : Valuation τ sig (Elt Ideal)} {t : Fin 16} {X : Fin 8 → Fin 16 → Fin 64 → ℝ} {P : Par} {C : Fin 8 → Mem}
    (H : Carried V t X P C) (h : t.val + 1 < 16) : Carried (STEP V) ⟨t.val + 1, h⟩ X P (fun b => step P (X b t) (C b)) where
  x := by rw [STEP_main_v6_0]; exact H.x
  wq := by rw [STEP_main_v6_1]; exact H.wq
  bq := by rw [STEP_main_v6_2]; exact H.bq
  wk := by rw [STEP_main_v6_3]; exact H.wk
  bk := by rw [STEP_main_v6_4]; exact H.bk
  wv := by rw [STEP_main_v6_5]; exact H.wv
  bv := by rw [STEP_main_v6_6]; exact H.bv
  u1 := by rw [STEP_main_v6_7]; exact H.u1
  u2 := by rw [STEP_main_v6_7]; exact H.u2
  bu := by rw [STEP_main_v6_8]; exact H.bu
  row := by rw [STEP_main_v6_9]; exact H.row
  ctr := by rw [STEP_main_v6_10]; exact ctr_next V t X P C H
  c := by rw [STEP_main_v6_11]; exact mem_at V t X P C H

section Loop

variable (V₀ : Valuation τ sig (Elt Ideal)) (X : Fin 8 → Fin 16 → Fin 64 → ℝ) (P : Par) (C : Mem) (H₀ : Carried V₀ 0 X P (fun _ => C))
include H₀

/-- Before step `k` the carried arrays hold the memory `mem … k`, and the outputs' rows below `k` are the layer's. -/
theorem loop_at : ∀ k ≤ 16, (∀ h : k < 16, Carried (STEP^[k] V₀) ⟨k, h⟩ X P (fun b => mem P (X b) C k))
      ∧ ∀ (s : Fin 16) (b : Fin 8) (d : Fin 64), s.val < k →
        ((STEP^[k] V₀) (Proc.devRef .tc main_v6_12) : Vec Ideal S16x8x64 .f32) (ix3 s b d) = output P (X b) C s d
  | 0, _ => ⟨fun _ => H₀, fun s _ _ h => absurd h (Nat.not_lt_zero _)⟩
  | k + 1, hk => by
    obtain ⟨I, O⟩ := loop_at k (by omega)
    have hk' : k < 16 := by omega
    have I := I hk'
    rw [Function.iterate_succ_apply']
    constructor
    · intro h
      have e : (fun b => mem P (X b) C (k + 1)) = fun b => step P (X b ⟨k, hk'⟩) (mem P (X b) C k) := funext fun b => mem_succ P (X b) C k hk'
      rw [e]
      exact I.next h
    · intro s b d hs
      rw [STEP_main_v6_12]
      refine (outs_at _ ⟨k, hk'⟩ X P _ I s b d).trans ?_
      by_cases e : s = ⟨k, hk'⟩
      · subst e
        rw [if_pos rfl]
        rfl
      · rw [if_neg e]
        exact O s b d (by
          have : s.val ≠ k := fun q => e (Fin.ext q)
          omega)

/-- The result, transposed back. -/
theorem out_eq : out_main_v7 (STEP^[16] V₀) = value X C P :=
  eq_value fun b t d => by
    refine Eq.trans ?_ ((loop_at V₀ X P C H₀ 16 le_rfl).2 t b d t.isLt)
    unfold out_main_v7
    pointwise

end Loop

variable (m : (ℓ : Loc nD τ sig) → Buf (Elt Ideal) ℓ) (c : Dev nD)

theorem entry_0 : entryContents preI m c (Proc.devRef .tc main_v6_0) = transpose S16x8x64 [1, 0, 2] (m ((c.tc : Thread nD τ).loc main_arg0)) transposes_S8x16x64_S16x8x64_1_0_2 := by
  simp only [entryContents, afterL_cons, afterL_nil]
  after_reads_simp
  rfl

theorem entry_1 : entryContents preI m c (Proc.devRef .tc main_v6_1) = m ((c.tc : Thread nD τ).loc main_arg2) := by
  simp only [entryContents, afterL_cons, afterL_nil]
  after_reads_simp
  rfl

theorem entry_2 : entryContents preI m c (Proc.devRef .tc main_v6_2) = m ((c.tc : Thread nD τ).loc main_arg3) := by
  simp only [entryContents, afterL_cons, afterL_nil]
  after_reads_simp
  rfl

theorem entry_3 : entryContents preI m c (Proc.devRef .tc main_v6_3) = m ((c.tc : Thread nD τ).loc main_arg4) := by
  simp only [entryContents, afterL_cons, afterL_nil]
  after_reads_simp
  rfl

theorem entry_4 : entryContents preI m c (Proc.devRef .tc main_v6_4) = m ((c.tc : Thread nD τ).loc main_arg5) := by
  simp only [entryContents, afterL_cons, afterL_nil]
  after_reads_simp
  rfl

theorem entry_5 : entryContents preI m c (Proc.devRef .tc main_v6_5) = m ((c.tc : Thread nD τ).loc main_arg6) := by
  simp only [entryContents, afterL_cons, afterL_nil]
  after_reads_simp
  rfl

theorem entry_6 : entryContents preI m c (Proc.devRef .tc main_v6_6) = m ((c.tc : Thread nD τ).loc main_arg7) := by
  simp only [entryContents, afterL_cons, afterL_nil]
  after_reads_simp
  rfl

theorem entry_7 : entryContents preI m c (Proc.devRef .tc main_v6_7) = m ((c.tc : Thread nD τ).loc main_arg8) := by
  simp only [entryContents, afterL_cons, afterL_nil]
  after_reads_simp
  rfl

theorem entry_8 : entryContents preI m c (Proc.devRef .tc main_v6_8) = m ((c.tc : Thread nD τ).loc main_arg9) := by
  simp only [entryContents, afterL_cons, afterL_nil]
  after_reads_simp
  rfl

theorem entry_9 : entryContents preI m c (Proc.devRef .tc main_v6_9) = broadcastInDim S8x1 ![0] bcast_S8_S8x1_0 (iotaInDim S8 32 0) := by
  simp only [entryContents, afterL_cons, afterL_nil]
  after_reads_simp
  rfl

theorem entry_11 : entryContents preI m c (Proc.devRef .tc main_v6_11)
    = broadcastInDim S8x16384x64 ![0, 1, 2] bcast_S1x16384x64_S8x16384x64_0_1_2 (broadcastInDim S1x16384x64 ![1, 2] bcast_S16384x64_S1x16384x64_1_2 (m ((c.tc : Thread nD τ).loc main_arg1))) := by
  simp only [entryContents, afterL_cons, afterL_nil]
  after_reads_simp
  rfl

/-- Device `c`'s arguments read as `X`, `C` and `P`. -/
abbrev ArgsAt (X : Fin 8 → Fin 16 → Fin 64 → ℝ) (C : Mem) (P : Par) : Prop :=
  Args (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9)) X C P

/-- The carried arrays at the loop's entry. -/
theorem entry_carried {X : Fin 8 → Fin 16 → Fin 64 → ℝ} {C : Mem} {P : Par} (A : ArgsAt m c X C P) :
    Carried (entryContents preI m c) 0 X P (fun _ => C) where
  x t b j := by
    rw [entry_0]
    refine Eq.trans ?_ (A.x b t j)
    pointwise
  wq := by rw [entry_1]; exact A.wq
  bq := by rw [entry_2]; exact A.bq
  wk := by rw [entry_3]; exact A.wk
  bk := by rw [entry_4]; exact A.bk
  wv := by rw [entry_5]; exact A.wv
  bv := by rw [entry_6]; exact A.bv
  u1 := by rw [entry_7]; exact A.u1
  u2 := by rw [entry_7]; exact A.u2
  bu := by rw [entry_8]; exact A.bu
  row b := by
    rw [entry_9]
    pointwise
  ctr := ctr_entry m c
  c b s j := by
    rw [entry_11]
    refine Eq.trans ?_ (A.c s j)
    pointwise

variable (g : Dev nD → PrngReg)

/-- From arguments so read every run ends with the layer's outputs and the arguments as they were. -/
theorem reference_run (X : Dev nD → Fin 8 → Fin 16 → Fin 64 → ℝ) (C : Dev nD → Mem) (P : Dev nD → Par) (A : ∀ c, ArgsAt m c (X c) (C c) (P c)) :
    θ_run (defs (F := Ideal)) (onTc (τ := τ) (main (F := Ideal))) ⟨m, fun _ => 0, g⟩ (fun r => ∀ c : Dev nD,
      r.2.mem ((c.tc : Thread nD τ).loc main_v7) = value (X c) (C c) (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c => ⟨(h c).1.trans (out_eq _ (X c) (P c) (C c) (entry_carried m c (A c))), (h c).2⟩) (run m g)

end Cert.ReferenceIdeal.Read
-- ==== Proof.Algebraic.lean ====
/- The value claim: on the same arguments the kernel and the reference return the same array. -/
module

public import proofs.«01_k».proof.Defs
public import proofs.«01_k».proof.Proof.Finite
public import proofs.«01_k».proof.Proof.KHost
public import proofs.«01_k».proof.Proof.RHost
public import proofs.«01_k».proof.Proof.Gen.ReferenceIdeal
public import proofs.«01_k».proof.Proof.Gen.Pre_finite

@[expose] public section

noncomputable section

namespace Cert.Proof

open Idealize.ShloMosaic Idealize.SL.Sem Cert.Spec

theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  choose X C P A using args_of_finite m hpre
  have A' : ∀ c, Cert.ReferenceIdeal.Read.ArgsAt m' c (X c) (C c) (P c) := fun c => by
    obtain ⟨e0, e1, e2, e3, e4, e5, e6, e7, e8, e9⟩ := hargs c
    have a := A c
    rw [← e0, ← e1, ← e2, ← e3, ← e4, ← e5, ← e6, ← e7, ← e8, ← e9] at a
    exact a
  exact ⟨fun c => value (X c) (C c) (P c), Cert.KernelIdeal.Read.kernel_run m g X C P A, Cert.ReferenceIdeal.Read.reference_run m' g' X C P A'⟩

end Cert.Proof
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite.Gen.facts, frame_kernel, frame_kernelIdeal, frame_kernelIdeal_finite, frame_reference, frame_reference_finite, trivial, algebraic⟩

end Cert.Proof

end
